-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary_KernelIdeal [hPre_in_vocabulary_KernelIdeal : Cert.Pre_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary_ReferenceIdeal [hPre_in_vocabulary_ReferenceIdeal : Cert.Pre_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocabulary_KernelIdeal [hKernelIdeal : Cert.KernelIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary_ReferenceIdeal [hReferenceIdeal : Cert.ReferenceIdeal.Facts] [hPre_in_vocabulary_ReferenceIdeal : Cert.Pre_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocabulary_KernelIdeal [hKernelIdeal : Cert.KernelIdeal.Facts] [hReferenceIdeal : Cert.ReferenceIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![4096, 512]⟩ ⟨2, ![16384, 512]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary_KernelIdeal : Cert.Pre_in_vocabulary_KernelIdeal.Facts) (hPre_in_vocabulary_ReferenceIdeal : Cert.Pre_in_vocabulary_ReferenceIdeal.Facts),
    quiescent_Kernel (hKernel := hKernel)
    ∧ quiescent_KernelIdeal (hKernelIdeal := hKernelIdeal)
    ∧ quiescent_KernelIdeal_pre_in_vocabulary_KernelIdeal (hKernelIdeal := hKernelIdeal) (hPre_in_vocabulary_KernelIdeal := hPre_in_vocabulary_KernelIdeal)
    ∧ quiescent_ReferenceIdeal (hReferenceIdeal := hReferenceIdeal)
    ∧ quiescent_ReferenceIdeal_pre_in_vocabulary_ReferenceIdeal (hReferenceIdeal := hReferenceIdeal) (hPre_in_vocabulary_ReferenceIdeal := hPre_in_vocabulary_ReferenceIdeal)
    ∧ preserves_Kernel_KernelIdeal
    ∧ algebraic_KernelIdeal_ReferenceIdeal_pre_in_vocabulary_KernelIdeal (hKernelIdeal := hKernelIdeal) (hReferenceIdeal := hReferenceIdeal) (hPre_in_vocabulary_KernelIdeal := hPre_in_vocabulary_KernelIdeal)
-- ==== Pre_in_vocabulary_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S4096x512 .bf16) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 16384#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_in_vocabulary_ReferenceIdeal.lean ====
abbrev S512 : Shape := ⟨1, ![512]⟩
abbrev S16384x512 : Shape := ⟨2, ![16384, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S16384x512 .bf16) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 16384#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S512 : Shape := ⟨1, ![512]⟩
abbrev S4096x512 : Shape := ⟨2, ![4096, 512]⟩
abbrev S512x1 : Shape := ⟨2, ![512, 1]⟩
abbrev S512x512 : Shape := ⟨2, ![512, 512]⟩
abbrev S1024x1 : Shape := ⟨2, ![1024, 1]⟩
abbrev S4x3x128x128 : Shape := ⟨4, ![4, 3, 128, 128]⟩
abbrev S4x128x128 : Shape := ⟨3, ![4, 128, 128]⟩
abbrev S4x3 : Shape := ⟨2, ![4, 3]⟩
abbrev S_ : Shape := ⟨0, ![]⟩
abbrev S256x4096 : Shape := ⟨2, ![256, 4096]⟩
abbrev S256x1 : Shape := ⟨2, ![256, 1]⟩
abbrev S256x512 : Shape := ⟨2, ![256, 512]⟩
abbrev S128x512 : Shape := ⟨2, ![128, 512]⟩
abbrev S128x128 : Shape := ⟨2, ![128, 128]⟩
abbrev S1x1x128x128 : Shape := ⟨4, ![1, 1, 128, 128]⟩
abbrev S1x1 : Shape := ⟨2, ![1, 1]⟩
abbrev S1x128x128 : Shape := ⟨3, ![1, 128, 128]⟩

abbrev nBuf : Space → Nat
  | .hbm => 4
  | .vmem => 8
  | .smem => 0
  | _ => 0

abbrev bufTy : (tb : Table) → Fin (tcTables nBuf tb) → BufTy
  | .hbm, ⟨0, _⟩ => ⟨S512, .i32⟩
  | .hbm, ⟨1, _⟩ => ⟨S4096x512, .bf16⟩
  | .hbm, ⟨2, _⟩ => ⟨S512x1, .i32⟩
  | .hbm, ⟨3, _⟩ => ⟨S512x512, .bf16⟩
  | .local _ .vmem, ⟨0, _⟩ => ⟨S512x1, .i32⟩
  | .local _ .vmem, ⟨1, _⟩ => ⟨S4096x512, .bf16⟩
  | .local _ .vmem, ⟨2, _⟩ => ⟨S512x512, .bf16⟩
  | .local _ .vmem, ⟨3, _⟩ => ⟨S1024x1, .i32⟩
  | .local _ .vmem, ⟨4, _⟩ => ⟨S4x3x128x128, .bf16⟩
  | .local _ .vmem, ⟨5, _⟩ => ⟨S4x3x128x128, .bf16⟩
  | .local _ .vmem, ⟨6, _⟩ => ⟨S4x128x128, .bf16⟩
  | .local _ .vmem, ⟨7, _⟩ => ⟨S4x3x128x128, .bf16⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32 : BitVec 32 := 0#32
  let v15 : BitVec 1 := Scalar.cmpi .eq c4_i32_7 c0_i32
  let c1_i32_8 : BitVec 32 := 1#32
  let v16 : BitVec 32 := Scalar.select v15 c1_i32_8 c4_i32_7
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_13 : BitVec 32 := 1#32
  let v25 : BitVec 32 := Scalar.muli v24 c1_i32_13
  let v26 : BitVec 32 := Scalar.addi c0_i32_14 v25
  v26.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v27 : BitVec 32 := Scalar.addi v2 c2_i32
  let c4_i32_15 : BitVec 32 := 4#32
  let c0_i32_16 : BitVec 32 := 0#32
  let v28 : BitVec 1 := Scalar.cmpi .eq c4_i32_15 c0_i32_16
  let c1_i32_17 : BitVec 32 := 1#32
  let v29 : BitVec 32 := Scalar.select v28 c1_i32_17 c4_i32_15
  let v30 : BitVec 32 := Scalar.remsi v27 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c1_i32_22 : BitVec 32 := 1#32
  let v38 : BitVec 32 := Scalar.muli v37 c1_i32_22
  let v39 : BitVec 32 := Scalar.addi c0_i32_23 v38
  v39.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v40 : BitVec 32 := Scalar.addi v2 c3_i32
  let c4_i32_24 : BitVec 32 := 4#32
  let c0_i32_25 : BitVec 32 := 0#32
  let v41 : BitVec 1 := Scalar.cmpi .eq c4_i32_24 c0_i32_25
  let c1_i32_26 : BitVec 32 := 1#32
  let v42 : BitVec 32 := Scalar.select v41 c1_i32_26 c4_i32_24
  let v43 : BitVec 32 := Scalar.remsi v40 v42
  let c0_i32_28 : BitVec 32 := 0#32
  let v45 : BitVec 1 := Scalar.cmpi .slt v43 c0_i32_28
  let c0_i32_29 : BitVec 32 := 0#32
  let v46 : BitVec 1 := Scalar.cmpi .slt v42 c0_i32_29
  let v47 : BitVec 1 := Scalar.xori v45 v46
  let c0_i32_27 : BitVec 32 := 0#32
  let v44 : BitVec 1 := Scalar.cmpi .ne v43 c0_i32_27
  let v48 : BitVec 1 := Scalar.andi v47 v44
  let v49 : BitVec 32 := Scalar.addi v43 v42
  let v50 : BitVec 32 := Scalar.select v48 v49 v43
  let c1_i32_31 : BitVec 32 := 1#32
  let v51 : BitVec 32 := Scalar.muli v50 c1_i32_31
  let v52 : BitVec 32 := Scalar.addi c0_i32_32 v51
  v52.toNat
def k0_off1 (d0 : Dev nD) (c1_i32_36 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v57 : BitVec 32 := Scalar.addi v2 c1_i32_36
  let c128_i32 : BitVec 32 := 128#32
  let v58 : BitVec 32 := Scalar.muli v57 c128_i32
  let v59 : Index := Scalar.indexCast v58
  let c0_37 : Index := 0#32
  ![v59.toNat, 0]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v71 : BitVec 32 := Scalar.addi v2 c2_i32_38
  let c4_i32_39 : BitVec 32 := 4#32
  let c0_i32_40 : BitVec 32 := 0#32
  let v72 : BitVec 1 := Scalar.cmpi .eq c4_i32_39 c0_i32_40
  let c1_i32_41 : BitVec 32 := 1#32
  let v73 : BitVec 32 := Scalar.select v72 c1_i32_41 c4_i32_39
  let v74 : BitVec 32 := Scalar.remsi v71 v73
  let c0_i32_43 : BitVec 32 := 0#32
  let v76 : BitVec 1 := Scalar.cmpi .slt v74 c0_i32_43
  let c0_i32_44 : BitVec 32 := 0#32
  let v77 : BitVec 1 := Scalar.cmpi .slt v73 c0_i32_44
  let v78 : BitVec 1 := Scalar.xori v76 v77
  let c0_i32_42 : BitVec 32 := 0#32
  let v75 : BitVec 1 := Scalar.cmpi .ne v74 c0_i32_42
  let v79 : BitVec 1 := Scalar.andi v78 v75
  let v80 : BitVec 32 := Scalar.addi v74 v73
  let v81 : BitVec 32 := Scalar.select v79 v80 v74
  let c1_i32_56 : BitVec 32 := 1#32
  let v86 : BitVec 32 := Scalar.muli v81 c1_i32_56
  let v87 : BitVec 32 := Scalar.addi c0_i32_57 v86
  v87.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v71 : BitVec 32 := Scalar.addi v2 c2_i32_38
  let c4_i32_39 : BitVec 32 := 4#32
  let c0_i32_40 : BitVec 32 := 0#32
  let v72 : BitVec 1 := Scalar.cmpi .eq c4_i32_39 c0_i32_40
  let c1_i32_41 : BitVec 32 := 1#32
  let v73 : BitVec 32 := Scalar.select v72 c1_i32_41 c4_i32_39
  let v74 : BitVec 32 := Scalar.remsi v71 v73
  let c0_i32_43 : BitVec 32 := 0#32
  let v76 : BitVec 1 := Scalar.cmpi .slt v74 c0_i32_43
  let c0_i32_44 : BitVec 32 := 0#32
  let v77 : BitVec 1 := Scalar.cmpi .slt v73 c0_i32_44
  let v78 : BitVec 1 := Scalar.xori v76 v77
  let c0_i32_42 : BitVec 32 := 0#32
  let v75 : BitVec 1 := Scalar.cmpi .ne v74 c0_i32_42
  let v79 : BitVec 1 := Scalar.andi v78 v75
  let v80 : BitVec 32 := Scalar.addi v74 v73
  let v81 : BitVec 32 := Scalar.select v79 v80 v74
  let c1_i32_74 : BitVec 32 := 1#32
  let v100 : BitVec 32 := Scalar.muli v81 c1_i32_74
  let v101 : BitVec 32 := Scalar.addi c0_i32_75 v100
  v101.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v71 : BitVec 32 := Scalar.addi v2 c2_i32_38
  let c4_i32_39 : BitVec 32 := 4#32
  let c0_i32_40 : BitVec 32 := 0#32
  let v72 : BitVec 1 := Scalar.cmpi .eq c4_i32_39 c0_i32_40
  let c1_i32_41 : BitVec 32 := 1#32
  let v73 : BitVec 32 := Scalar.select v72 c1_i32_41 c4_i32_39
  let v74 : BitVec 32 := Scalar.remsi v71 v73
  let c0_i32_43 : BitVec 32 := 0#32
  let v76 : BitVec 1 := Scalar.cmpi .slt v74 c0_i32_43
  let c0_i32_44 : BitVec 32 := 0#32
  let v77 : BitVec 1 := Scalar.cmpi .slt v73 c0_i32_44
  let v78 : BitVec 1 := Scalar.xori v76 v77
  let c0_i32_42 : BitVec 32 := 0#32
  let v75 : BitVec 1 := Scalar.cmpi .ne v74 c0_i32_42
  let v79 : BitVec 1 := Scalar.andi v78 v75
  let v80 : BitVec 32 := Scalar.addi v74 v73
  let v81 : BitVec 32 := Scalar.select v79 v80 v74
  let c1_i32_91 : BitVec 32 := 1#32
  let v114 : BitVec 32 := Scalar.muli v81 c1_i32_91
  let v115 : BitVec 32 := Scalar.addi c0_i32_92 v114
  v115.toNat
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v71 : BitVec 32 := Scalar.addi v2 c2_i32_38
  let c4_i32_39 : BitVec 32 := 4#32
  let c0_i32_40 : BitVec 32 := 0#32
  let v72 : BitVec 1 := Scalar.cmpi .eq c4_i32_39 c0_i32_40
  let c1_i32_41 : BitVec 32 := 1#32
  let v73 : BitVec 32 := Scalar.select v72 c1_i32_41 c4_i32_39
  let v74 : BitVec 32 := Scalar.remsi v71 v73
  let c0_i32_43 : BitVec 32 := 0#32
  let v76 : BitVec 1 := Scalar.cmpi .slt v74 c0_i32_43
  let c0_i32_44 : BitVec 32 := 0#32
  let v77 : BitVec 1 := Scalar.cmpi .slt v73 c0_i32_44
  let v78 : BitVec 1 := Scalar.xori v76 v77
  let c0_i32_42 : BitVec 32 := 0#32
  let v75 : BitVec 1 := Scalar.cmpi .ne v74 c0_i32_42
  let v79 : BitVec 1 := Scalar.andi v78 v75
  let v80 : BitVec 32 := Scalar.addi v74 v73
  let v81 : BitVec 32 := Scalar.select v79 v80 v74
  let c1_i32_108 : BitVec 32 := 1#32
  let v128 : BitVec 32 := Scalar.muli v81 c1_i32_108
  let v129 : BitVec 32 := Scalar.addi c0_i32_109 v128
  v129.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_114 : BitVec 32 := 1#32
  let v139 : BitVec 32 := Scalar.addi v2 c1_i32_114
  let c4_i32_115 : BitVec 32 := 4#32
  let c0_i32_116 : BitVec 32 := 0#32
  let v140 : BitVec 1 := Scalar.cmpi .eq c4_i32_115 c0_i32_116
  let c1_i32_117 : BitVec 32 := 1#32
  let v141 : BitVec 32 := Scalar.select v140 c1_i32_117 c4_i32_115
  let v142 : BitVec 32 := Scalar.remsi v139 v141
  let c0_i32_119 : BitVec 32 := 0#32
  let v144 : BitVec 1 := Scalar.cmpi .slt v142 c0_i32_119
  let c0_i32_120 : BitVec 32 := 0#32
  let v145 : BitVec 1 := Scalar.cmpi .slt v141 c0_i32_120
  let v146 : BitVec 1 := Scalar.xori v144 v145
  let c0_i32_118 : BitVec 32 := 0#32
  let v143 : BitVec 1 := Scalar.cmpi .ne v142 c0_i32_118
  let v147 : BitVec 1 := Scalar.andi v146 v143
  let v148 : BitVec 32 := Scalar.addi v142 v141
  let v149 : BitVec 32 := Scalar.select v147 v148 v142
  let c1_i32_133 : BitVec 32 := 1#32
  let v154 : BitVec 32 := Scalar.muli v149 c1_i32_133
  let v155 : BitVec 32 := Scalar.addi c0_i32_134 v154
  v155.toNat
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_114 : BitVec 32 := 1#32
  let v139 : BitVec 32 := Scalar.addi v2 c1_i32_114
  let c4_i32_115 : BitVec 32 := 4#32
  let c0_i32_116 : BitVec 32 := 0#32
  let v140 : BitVec 1 := Scalar.cmpi .eq c4_i32_115 c0_i32_116
  let c1_i32_117 : BitVec 32 := 1#32
  let v141 : BitVec 32 := Scalar.select v140 c1_i32_117 c4_i32_115
  let v142 : BitVec 32 := Scalar.remsi v139 v141
  let c0_i32_119 : BitVec 32 := 0#32
  let v144 : BitVec 1 := Scalar.cmpi .slt v142 c0_i32_119
  let c0_i32_120 : BitVec 32 := 0#32
  let v145 : BitVec 1 := Scalar.cmpi .slt v141 c0_i32_120
  let v146 : BitVec 1 := Scalar.xori v144 v145
  let c0_i32_118 : BitVec 32 := 0#32
  let v143 : BitVec 1 := Scalar.cmpi .ne v142 c0_i32_118
  let v147 : BitVec 1 := Scalar.andi v146 v143
  let v148 : BitVec 32 := Scalar.addi v142 v141
  let v149 : BitVec 32 := Scalar.select v147 v148 v142
  let c1_i32_151 : BitVec 32 := 1#32
  let v168 : BitVec 32 := Scalar.muli v149 c1_i32_151
  let v169 : BitVec 32 := Scalar.addi c0_i32_152 v168
  v169.toNat
def k0_dev10 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_114 : BitVec 32 := 1#32
  let v139 : BitVec 32 := Scalar.addi v2 c1_i32_114
  let c4_i32_115 : BitVec 32 := 4#32
  let c0_i32_116 : BitVec 32 := 0#32
  let v140 : BitVec 1 := Scalar.cmpi .eq c4_i32_115 c0_i32_116
  let c1_i32_117 : BitVec 32 := 1#32
  let v141 : BitVec 32 := Scalar.select v140 c1_i32_117 c4_i32_115
  let v142 : BitVec 32 := Scalar.remsi v139 v141
  let c0_i32_119 : BitVec 32 := 0#32
  let v144 : BitVec 1 := Scalar.cmpi .slt v142 c0_i32_119
  let c0_i32_120 : BitVec 32 := 0#32
  let v145 : BitVec 1 := Scalar.cmpi .slt v141 c0_i32_120
  let v146 : BitVec 1 := Scalar.xori v144 v145
  let c0_i32_118 : BitVec 32 := 0#32
  let v143 : BitVec 1 := Scalar.cmpi .ne v142 c0_i32_118
  let v147 : BitVec 1 := Scalar.andi v146 v143
  let v148 : BitVec 32 := Scalar.addi v142 v141
  let v149 : BitVec 32 := Scalar.select v147 v148 v142
  let c1_i32_169 : BitVec 32 := 1#32
  let v182 : BitVec 32 := Scalar.muli v149 c1_i32_169
  let v183 : BitVec 32 := Scalar.addi c0_i32_170 v182
  v183.toNat
def k0_dev11 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_114 : BitVec 32 := 1#32
  let v139 : BitVec 32 := Scalar.addi v2 c1_i32_114
  let c4_i32_115 : BitVec 32 := 4#32
  let c0_i32_116 : BitVec 32 := 0#32
  let v140 : BitVec 1 := Scalar.cmpi .eq c4_i32_115 c0_i32_116
  let c1_i32_117 : BitVec 32 := 1#32
  let v141 : BitVec 32 := Scalar.select v140 c1_i32_117 c4_i32_115
  let v142 : BitVec 32 := Scalar.remsi v139 v141
  let c0_i32_119 : BitVec 32 := 0#32
  let v144 : BitVec 1 := Scalar.cmpi .slt v142 c0_i32_119
  let c0_i32_120 : BitVec 32 := 0#32
  let v145 : BitVec 1 := Scalar.cmpi .slt v141 c0_i32_120
  let v146 : BitVec 1 := Scalar.xori v144 v145
  let c0_i32_118 : BitVec 32 := 0#32
  let v143 : BitVec 1 := Scalar.cmpi .ne v142 c0_i32_118
  let v147 : BitVec 1 := Scalar.andi v146 v143
  let v148 : BitVec 32 := Scalar.addi v142 v141
  let v149 : BitVec 32 := Scalar.select v147 v148 v142
  let c1_i32_187 : BitVec 32 := 1#32
  let v196 : BitVec 32 := Scalar.muli v149 c1_i32_187
  let v197 : BitVec 32 := Scalar.addi c0_i32_188 v196
  v197.toNat
def k0_dev12 (d0 : Dev nD) : Nat :=
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_197 : BitVec 32 := 3#32
  let v220 : BitVec 32 := Scalar.addi v2 c3_i32_197
  let c4_i32_198 : BitVec 32 := 4#32
  let c0_i32_199 : BitVec 32 := 0#32
  let v221 : BitVec 1 := Scalar.cmpi .eq c4_i32_198 c0_i32_199
  let c1_i32_200 : BitVec 32 := 1#32
  let v222 : BitVec 32 := Scalar.select v221 c1_i32_200 c4_i32_198
  let v223 : BitVec 32 := Scalar.remsi v220 v222
  let c0_i32_202 : BitVec 32 := 0#32
  let v225 : BitVec 1 := Scalar.cmpi .slt v223 c0_i32_202
  let c0_i32_203 : BitVec 32 := 0#32
  let v226 : BitVec 1 := Scalar.cmpi .slt v222 c0_i32_203
  let v227 : BitVec 1 := Scalar.xori v225 v226
  let c0_i32_201 : BitVec 32 := 0#32
  let v224 : BitVec 1 := Scalar.cmpi .ne v223 c0_i32_201
  let v228 : BitVec 1 := Scalar.andi v227 v224
  let v229 : BitVec 32 := Scalar.addi v223 v222
  let v230 : BitVec 32 := Scalar.select v228 v229 v223
  let c1_i32_216 : BitVec 32 := 1#32
  let v235 : BitVec 32 := Scalar.muli v230 c1_i32_216
  let v236 : BitVec 32 := Scalar.addi c0_i32_217 v235
  v236.toNat
def k0_dev13 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_197 : BitVec 32 := 3#32
  let v220 : BitVec 32 := Scalar.addi v2 c3_i32_197
  let c4_i32_198 : BitVec 32 := 4#32
  let c0_i32_199 : BitVec 32 := 0#32
  let v221 : BitVec 1 := Scalar.cmpi .eq c4_i32_198 c0_i32_199
  let c1_i32_200 : BitVec 32 := 1#32
  let v222 : BitVec 32 := Scalar.select v221 c1_i32_200 c4_i32_198
  let v223 : BitVec 32 := Scalar.remsi v220 v222
  let c0_i32_202 : BitVec 32 := 0#32
  let v225 : BitVec 1 := Scalar.cmpi .slt v223 c0_i32_202
  let c0_i32_203 : BitVec 32 := 0#32
  let v226 : BitVec 1 := Scalar.cmpi .slt v222 c0_i32_203
  let v227 : BitVec 1 := Scalar.xori v225 v226
  let c0_i32_201 : BitVec 32 := 0#32
  let v224 : BitVec 1 := Scalar.cmpi .ne v223 c0_i32_201
  let v228 : BitVec 1 := Scalar.andi v227 v224
  let v229 : BitVec 32 := Scalar.addi v223 v222
  let v230 : BitVec 32 := Scalar.select v228 v229 v223
  let c1_i32_234 : BitVec 32 := 1#32
  let v249 : BitVec 32 := Scalar.muli v230 c1_i32_234
  let v250 : BitVec 32 := Scalar.addi c0_i32_235 v249
  v250.toNat
def k0_dev14 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_197 : BitVec 32 := 3#32
  let v220 : BitVec 32 := Scalar.addi v2 c3_i32_197
  let c4_i32_198 : BitVec 32 := 4#32
  let c0_i32_199 : BitVec 32 := 0#32
  let v221 : BitVec 1 := Scalar.cmpi .eq c4_i32_198 c0_i32_199
  let c1_i32_200 : BitVec 32 := 1#32
  let v222 : BitVec 32 := Scalar.select v221 c1_i32_200 c4_i32_198
  let v223 : BitVec 32 := Scalar.remsi v220 v222
  let c0_i32_202 : BitVec 32 := 0#32
  let v225 : BitVec 1 := Scalar.cmpi .slt v223 c0_i32_202
  let c0_i32_203 : BitVec 32 := 0#32
  let v226 : BitVec 1 := Scalar.cmpi .slt v222 c0_i32_203
  let v227 : BitVec 1 := Scalar.xori v225 v226
  let c0_i32_201 : BitVec 32 := 0#32
  let v224 : BitVec 1 := Scalar.cmpi .ne v223 c0_i32_201
  let v228 : BitVec 1 := Scalar.andi v227 v224
  let v229 : BitVec 32 := Scalar.addi v223 v222
  let v230 : BitVec 32 := Scalar.select v228 v229 v223
  let c1_i32_252 : BitVec 32 := 1#32
  let v263 : BitVec 32 := Scalar.muli v230 c1_i32_252
  let v264 : BitVec 32 := Scalar.addi c0_i32_253 v263
  v264.toNat
def k0_dev15 (d0 : Dev nD) : Nat :=
  let c0_i32_271 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_197 : BitVec 32 := 3#32
  let v220 : BitVec 32 := Scalar.addi v2 c3_i32_197
  let c4_i32_198 : BitVec 32 := 4#32
  let c0_i32_199 : BitVec 32 := 0#32
  let v221 : BitVec 1 := Scalar.cmpi .eq c4_i32_198 c0_i32_199
  let c1_i32_200 : BitVec 32 := 1#32
  let v222 : BitVec 32 := Scalar.select v221 c1_i32_200 c4_i32_198
  let v223 : BitVec 32 := Scalar.remsi v220 v222
  let c0_i32_202 : BitVec 32 := 0#32
  let v225 : BitVec 1 := Scalar.cmpi .slt v223 c0_i32_202
  let c0_i32_203 : BitVec 32 := 0#32
  let v226 : BitVec 1 := Scalar.cmpi .slt v222 c0_i32_203
  let v227 : BitVec 1 := Scalar.xori v225 v226
  let c0_i32_201 : BitVec 32 := 0#32
  let v224 : BitVec 1 := Scalar.cmpi .ne v223 c0_i32_201
  let v228 : BitVec 1 := Scalar.andi v227 v224
  let v229 : BitVec 32 := Scalar.addi v223 v222
  let v230 : BitVec 32 := Scalar.select v228 v229 v223
  let c1_i32_270 : BitVec 32 := 1#32
  let v277 : BitVec 32 := Scalar.muli v230 c1_i32_270
  let v278 : BitVec 32 := Scalar.addi c0_i32_271 v277
  v278.toNat
def k0_dev16 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_333 : BitVec 32 := 2#32
  let v325 : BitVec 32 := Scalar.addi v2 c2_i32_333
  let c4_i32_334 : BitVec 32 := 4#32
  let c0_i32_335 : BitVec 32 := 0#32
  let v326 : BitVec 1 := Scalar.cmpi .eq c4_i32_334 c0_i32_335
  let c1_i32_336 : BitVec 32 := 1#32
  let v327 : BitVec 32 := Scalar.select v326 c1_i32_336 c4_i32_334
  let v328 : BitVec 32 := Scalar.remsi v325 v327
  let c0_i32_338 : BitVec 32 := 0#32
  let v330 : BitVec 1 := Scalar.cmpi .slt v328 c0_i32_338
  let c0_i32_339 : BitVec 32 := 0#32
  let v331 : BitVec 1 := Scalar.cmpi .slt v327 c0_i32_339
  let v332 : BitVec 1 := Scalar.xori v330 v331
  let c0_i32_337 : BitVec 32 := 0#32
  let v329 : BitVec 1 := Scalar.cmpi .ne v328 c0_i32_337
  let v333 : BitVec 1 := Scalar.andi v332 v329
  let v334 : BitVec 32 := Scalar.addi v328 v327
  let v335 : BitVec 32 := Scalar.select v333 v334 v328
  let c1_i32_347 : BitVec 32 := 1#32
  let v336 : BitVec 32 := Scalar.muli v335 c1_i32_347
  let v337 : BitVec 32 := Scalar.addi c0_i32_348 v336
  v337.toNat
def k0_dev17 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_353 : BitVec 32 := 1#32
  let v346 : BitVec 32 := Scalar.addi v2 c1_i32_353
  let c4_i32_354 : BitVec 32 := 4#32
  let c0_i32_355 : BitVec 32 := 0#32
  let v347 : BitVec 1 := Scalar.cmpi .eq c4_i32_354 c0_i32_355
  let c1_i32_356 : BitVec 32 := 1#32
  let v348 : BitVec 32 := Scalar.select v347 c1_i32_356 c4_i32_354
  let v349 : BitVec 32 := Scalar.remsi v346 v348
  let c0_i32_358 : BitVec 32 := 0#32
  let v351 : BitVec 1 := Scalar.cmpi .slt v349 c0_i32_358
  let c0_i32_359 : BitVec 32 := 0#32
  let v352 : BitVec 1 := Scalar.cmpi .slt v348 c0_i32_359
  let v353 : BitVec 1 := Scalar.xori v351 v352
  let c0_i32_357 : BitVec 32 := 0#32
  let v350 : BitVec 1 := Scalar.cmpi .ne v349 c0_i32_357
  let v354 : BitVec 1 := Scalar.andi v353 v350
  let v355 : BitVec 32 := Scalar.addi v349 v348
  let v356 : BitVec 32 := Scalar.select v354 v355 v349
  let c1_i32_367 : BitVec 32 := 1#32
  let v357 : BitVec 32 := Scalar.muli v356 c1_i32_367
  let v358 : BitVec 32 := Scalar.addi c0_i32_368 v357
  v358.toNat
def k0_dev18 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_373 : BitVec 32 := 3#32
  let v367 : BitVec 32 := Scalar.addi v2 c3_i32_373
  let c4_i32_374 : BitVec 32 := 4#32
  let c0_i32_375 : BitVec 32 := 0#32
  let v368 : BitVec 1 := Scalar.cmpi .eq c4_i32_374 c0_i32_375
  let c1_i32_376 : BitVec 32 := 1#32
  let v369 : BitVec 32 := Scalar.select v368 c1_i32_376 c4_i32_374
  let v370 : BitVec 32 := Scalar.remsi v367 v369
  let c0_i32_378 : BitVec 32 := 0#32
  let v372 : BitVec 1 := Scalar.cmpi .slt v370 c0_i32_378
  let c0_i32_379 : BitVec 32 := 0#32
  let v373 : BitVec 1 := Scalar.cmpi .slt v369 c0_i32_379
  let v374 : BitVec 1 := Scalar.xori v372 v373
  let c0_i32_377 : BitVec 32 := 0#32
  let v371 : BitVec 1 := Scalar.cmpi .ne v370 c0_i32_377
  let v375 : BitVec 1 := Scalar.andi v374 v371
  let v376 : BitVec 32 := Scalar.addi v370 v369
  let v377 : BitVec 32 := Scalar.select v375 v376 v370
  let c1_i32_387 : BitVec 32 := 1#32
  let v378 : BitVec 32 := Scalar.muli v377 c1_i32_387
  let v379 : BitVec 32 := Scalar.addi c0_i32_388 v378
  v379.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_393 : BitVec 32 := 128#32
  let v388 : BitVec 32 := Scalar.muli v2 c128_i32_393
  let v389 : Index := Scalar.indexCast v388
  let c0_394 : Index := 0#32
  ![v389.toNat, 0]
def k0_dev19 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_452 : BitVec 32 := 2#32
  let v428 : BitVec 32 := Scalar.addi v2 c2_i32_452
  let c4_i32_453 : BitVec 32 := 4#32
  let c0_i32_454 : BitVec 32 := 0#32
  let v429 : BitVec 1 := Scalar.cmpi .eq c4_i32_453 c0_i32_454
  let c1_i32_455 : BitVec 32 := 1#32
  let v430 : BitVec 32 := Scalar.select v429 c1_i32_455 c4_i32_453
  let v431 : BitVec 32 := Scalar.remsi v428 v430
  let c0_i32_457 : BitVec 32 := 0#32
  let v433 : BitVec 1 := Scalar.cmpi .slt v431 c0_i32_457
  let c0_i32_458 : BitVec 32 := 0#32
  let v434 : BitVec 1 := Scalar.cmpi .slt v430 c0_i32_458
  let v435 : BitVec 1 := Scalar.xori v433 v434
  let c0_i32_456 : BitVec 32 := 0#32
  let v432 : BitVec 1 := Scalar.cmpi .ne v431 c0_i32_456
  let v436 : BitVec 1 := Scalar.andi v435 v432
  let v437 : BitVec 32 := Scalar.addi v431 v430
  let v438 : BitVec 32 := Scalar.select v436 v437 v431
  let c1_i32_466 : BitVec 32 := 1#32
  let v439 : BitVec 32 := Scalar.muli v438 c1_i32_466
  let v440 : BitVec 32 := Scalar.addi c0_i32_467 v439
  v440.toNat
def k0_dev20 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_472 : BitVec 32 := 1#32
  let v449 : BitVec 32 := Scalar.addi v2 c1_i32_472
  let c4_i32_473 : BitVec 32 := 4#32
  let c0_i32_474 : BitVec 32 := 0#32
  let v450 : BitVec 1 := Scalar.cmpi .eq c4_i32_473 c0_i32_474
  let c1_i32_475 : BitVec 32 := 1#32
  let v451 : BitVec 32 := Scalar.select v450 c1_i32_475 c4_i32_473
  let v452 : BitVec 32 := Scalar.remsi v449 v451
  let c0_i32_477 : BitVec 32 := 0#32
  let v454 : BitVec 1 := Scalar.cmpi .slt v452 c0_i32_477
  let c0_i32_478 : BitVec 32 := 0#32
  let v455 : BitVec 1 := Scalar.cmpi .slt v451 c0_i32_478
  let v456 : BitVec 1 := Scalar.xori v454 v455
  let c0_i32_476 : BitVec 32 := 0#32
  let v453 : BitVec 1 := Scalar.cmpi .ne v452 c0_i32_476
  let v457 : BitVec 1 := Scalar.andi v456 v453
  let v458 : BitVec 32 := Scalar.addi v452 v451
  let v459 : BitVec 32 := Scalar.select v457 v458 v452
  let c1_i32_486 : BitVec 32 := 1#32
  let v460 : BitVec 32 := Scalar.muli v459 c1_i32_486
  let v461 : BitVec 32 := Scalar.addi c0_i32_487 v460
  v461.toNat
def k0_dev21 (d0 : Dev nD) : Nat :=
  let c0_i32_507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_492 : BitVec 32 := 3#32
  let v470 : BitVec 32 := Scalar.addi v2 c3_i32_492
  let c4_i32_493 : BitVec 32 := 4#32
  let c0_i32_494 : BitVec 32 := 0#32
  let v471 : BitVec 1 := Scalar.cmpi .eq c4_i32_493 c0_i32_494
  let c1_i32_495 : BitVec 32 := 1#32
  let v472 : BitVec 32 := Scalar.select v471 c1_i32_495 c4_i32_493
  let v473 : BitVec 32 := Scalar.remsi v470 v472
  let c0_i32_497 : BitVec 32 := 0#32
  let v475 : BitVec 1 := Scalar.cmpi .slt v473 c0_i32_497
  let c0_i32_498 : BitVec 32 := 0#32
  let v476 : BitVec 1 := Scalar.cmpi .slt v472 c0_i32_498
  let v477 : BitVec 1 := Scalar.xori v475 v476
  let c0_i32_496 : BitVec 32 := 0#32
  let v474 : BitVec 1 := Scalar.cmpi .ne v473 c0_i32_496
  let v478 : BitVec 1 := Scalar.andi v477 v474
  let v479 : BitVec 32 := Scalar.addi v473 v472
  let v480 : BitVec 32 := Scalar.select v478 v479 v473
  let c1_i32_506 : BitVec 32 := 1#32
  let v481 : BitVec 32 := Scalar.muli v480 c1_i32_506
  let v482 : BitVec 32 := Scalar.addi c0_i32_507 v481
  v482.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_512 : BitVec 32 := 128#32
  let v491 : BitVec 32 := Scalar.muli v2 c128_i32_512
  let v492 : Index := Scalar.indexCast v491
  let c128 : Index := 128#32
  ![v492.toNat, 128]
def k0_dev22 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_570 : BitVec 32 := 2#32
  let v531 : BitVec 32 := Scalar.addi v2 c2_i32_570
  let c4_i32_571 : BitVec 32 := 4#32
  let c0_i32_572 : BitVec 32 := 0#32
  let v532 : BitVec 1 := Scalar.cmpi .eq c4_i32_571 c0_i32_572
  let c1_i32_573 : BitVec 32 := 1#32
  let v533 : BitVec 32 := Scalar.select v532 c1_i32_573 c4_i32_571
  let v534 : BitVec 32 := Scalar.remsi v531 v533
  let c0_i32_575 : BitVec 32 := 0#32
  let v536 : BitVec 1 := Scalar.cmpi .slt v534 c0_i32_575
  let c0_i32_576 : BitVec 32 := 0#32
  let v537 : BitVec 1 := Scalar.cmpi .slt v533 c0_i32_576
  let v538 : BitVec 1 := Scalar.xori v536 v537
  let c0_i32_574 : BitVec 32 := 0#32
  let v535 : BitVec 1 := Scalar.cmpi .ne v534 c0_i32_574
  let v539 : BitVec 1 := Scalar.andi v538 v535
  let v540 : BitVec 32 := Scalar.addi v534 v533
  let v541 : BitVec 32 := Scalar.select v539 v540 v534
  let c1_i32_584 : BitVec 32 := 1#32
  let v542 : BitVec 32 := Scalar.muli v541 c1_i32_584
  let v543 : BitVec 32 := Scalar.addi c0_i32_585 v542
  v543.toNat
def k0_dev23 (d0 : Dev nD) : Nat :=
  let c0_i32_605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_590 : BitVec 32 := 1#32
  let v552 : BitVec 32 := Scalar.addi v2 c1_i32_590
  let c4_i32_591 : BitVec 32 := 4#32
  let c0_i32_592 : BitVec 32 := 0#32
  let v553 : BitVec 1 := Scalar.cmpi .eq c4_i32_591 c0_i32_592
  let c1_i32_593 : BitVec 32 := 1#32
  let v554 : BitVec 32 := Scalar.select v553 c1_i32_593 c4_i32_591
  let v555 : BitVec 32 := Scalar.remsi v552 v554
  let c0_i32_595 : BitVec 32 := 0#32
  let v557 : BitVec 1 := Scalar.cmpi .slt v555 c0_i32_595
  let c0_i32_596 : BitVec 32 := 0#32
  let v558 : BitVec 1 := Scalar.cmpi .slt v554 c0_i32_596
  let v559 : BitVec 1 := Scalar.xori v557 v558
  let c0_i32_594 : BitVec 32 := 0#32
  let v556 : BitVec 1 := Scalar.cmpi .ne v555 c0_i32_594
  let v560 : BitVec 1 := Scalar.andi v559 v556
  let v561 : BitVec 32 := Scalar.addi v555 v554
  let v562 : BitVec 32 := Scalar.select v560 v561 v555
  let c1_i32_604 : BitVec 32 := 1#32
  let v563 : BitVec 32 := Scalar.muli v562 c1_i32_604
  let v564 : BitVec 32 := Scalar.addi c0_i32_605 v563
  v564.toNat
def k0_dev24 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_610 : BitVec 32 := 3#32
  let v573 : BitVec 32 := Scalar.addi v2 c3_i32_610
  let c4_i32_611 : BitVec 32 := 4#32
  let c0_i32_612 : BitVec 32 := 0#32
  let v574 : BitVec 1 := Scalar.cmpi .eq c4_i32_611 c0_i32_612
  let c1_i32_613 : BitVec 32 := 1#32
  let v575 : BitVec 32 := Scalar.select v574 c1_i32_613 c4_i32_611
  let v576 : BitVec 32 := Scalar.remsi v573 v575
  let c0_i32_615 : BitVec 32 := 0#32
  let v578 : BitVec 1 := Scalar.cmpi .slt v576 c0_i32_615
  let c0_i32_616 : BitVec 32 := 0#32
  let v579 : BitVec 1 := Scalar.cmpi .slt v575 c0_i32_616
  let v580 : BitVec 1 := Scalar.xori v578 v579
  let c0_i32_614 : BitVec 32 := 0#32
  let v577 : BitVec 1 := Scalar.cmpi .ne v576 c0_i32_614
  let v581 : BitVec 1 := Scalar.andi v580 v577
  let v582 : BitVec 32 := Scalar.addi v576 v575
  let v583 : BitVec 32 := Scalar.select v581 v582 v576
  let c1_i32_624 : BitVec 32 := 1#32
  let v584 : BitVec 32 := Scalar.muli v583 c1_i32_624
  let v585 : BitVec 32 := Scalar.addi c0_i32_625 v584
  v585.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_630 : BitVec 32 := 128#32
  let v594 : BitVec 32 := Scalar.muli v2 c128_i32_630
  let v595 : Index := Scalar.indexCast v594
  let c256 : Index := 256#32
  ![v595.toNat, 256]
def k0_dev25 (d0 : Dev nD) : Nat :=
  let c0_i32_703 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_688 : BitVec 32 := 2#32
  let v634 : BitVec 32 := Scalar.addi v2 c2_i32_688
  let c4_i32_689 : BitVec 32 := 4#32
  let c0_i32_690 : BitVec 32 := 0#32
  let v635 : BitVec 1 := Scalar.cmpi .eq c4_i32_689 c0_i32_690
  let c1_i32_691 : BitVec 32 := 1#32
  let v636 : BitVec 32 := Scalar.select v635 c1_i32_691 c4_i32_689
  let v637 : BitVec 32 := Scalar.remsi v634 v636
  let c0_i32_693 : BitVec 32 := 0#32
  let v639 : BitVec 1 := Scalar.cmpi .slt v637 c0_i32_693
  let c0_i32_694 : BitVec 32 := 0#32
  let v640 : BitVec 1 := Scalar.cmpi .slt v636 c0_i32_694
  let v641 : BitVec 1 := Scalar.xori v639 v640
  let c0_i32_692 : BitVec 32 := 0#32
  let v638 : BitVec 1 := Scalar.cmpi .ne v637 c0_i32_692
  let v642 : BitVec 1 := Scalar.andi v641 v638
  let v643 : BitVec 32 := Scalar.addi v637 v636
  let v644 : BitVec 32 := Scalar.select v642 v643 v637
  let c1_i32_702 : BitVec 32 := 1#32
  let v645 : BitVec 32 := Scalar.muli v644 c1_i32_702
  let v646 : BitVec 32 := Scalar.addi c0_i32_703 v645
  v646.toNat
def k0_dev26 (d0 : Dev nD) : Nat :=
  let c0_i32_723 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_708 : BitVec 32 := 1#32
  let v655 : BitVec 32 := Scalar.addi v2 c1_i32_708
  let c4_i32_709 : BitVec 32 := 4#32
  let c0_i32_710 : BitVec 32 := 0#32
  let v656 : BitVec 1 := Scalar.cmpi .eq c4_i32_709 c0_i32_710
  let c1_i32_711 : BitVec 32 := 1#32
  let v657 : BitVec 32 := Scalar.select v656 c1_i32_711 c4_i32_709
  let v658 : BitVec 32 := Scalar.remsi v655 v657
  let c0_i32_713 : BitVec 32 := 0#32
  let v660 : BitVec 1 := Scalar.cmpi .slt v658 c0_i32_713
  let c0_i32_714 : BitVec 32 := 0#32
  let v661 : BitVec 1 := Scalar.cmpi .slt v657 c0_i32_714
  let v662 : BitVec 1 := Scalar.xori v660 v661
  let c0_i32_712 : BitVec 32 := 0#32
  let v659 : BitVec 1 := Scalar.cmpi .ne v658 c0_i32_712
  let v663 : BitVec 1 := Scalar.andi v662 v659
  let v664 : BitVec 32 := Scalar.addi v658 v657
  let v665 : BitVec 32 := Scalar.select v663 v664 v658
  let c1_i32_722 : BitVec 32 := 1#32
  let v666 : BitVec 32 := Scalar.muli v665 c1_i32_722
  let v667 : BitVec 32 := Scalar.addi c0_i32_723 v666
  v667.toNat
def k0_dev27 (d0 : Dev nD) : Nat :=
  let c0_i32_743 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_728 : BitVec 32 := 3#32
  let v676 : BitVec 32 := Scalar.addi v2 c3_i32_728
  let c4_i32_729 : BitVec 32 := 4#32
  let c0_i32_730 : BitVec 32 := 0#32
  let v677 : BitVec 1 := Scalar.cmpi .eq c4_i32_729 c0_i32_730
  let c1_i32_731 : BitVec 32 := 1#32
  let v678 : BitVec 32 := Scalar.select v677 c1_i32_731 c4_i32_729
  let v679 : BitVec 32 := Scalar.remsi v676 v678
  let c0_i32_733 : BitVec 32 := 0#32
  let v681 : BitVec 1 := Scalar.cmpi .slt v679 c0_i32_733
  let c0_i32_734 : BitVec 32 := 0#32
  let v682 : BitVec 1 := Scalar.cmpi .slt v678 c0_i32_734
  let v683 : BitVec 1 := Scalar.xori v681 v682
  let c0_i32_732 : BitVec 32 := 0#32
  let v680 : BitVec 1 := Scalar.cmpi .ne v679 c0_i32_732
  let v684 : BitVec 1 := Scalar.andi v683 v680
  let v685 : BitVec 32 := Scalar.addi v679 v678
  let v686 : BitVec 32 := Scalar.select v684 v685 v679
  let c1_i32_742 : BitVec 32 := 1#32
  let v687 : BitVec 32 := Scalar.muli v686 c1_i32_742
  let v688 : BitVec 32 := Scalar.addi c0_i32_743 v687
  v688.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_748 : BitVec 32 := 128#32
  let v697 : BitVec 32 := Scalar.muli v2 c128_i32_748
  let v698 : Index := Scalar.indexCast v697
  let c384 : Index := 384#32
  ![v698.toNat, 384]
def k0_off6 (d0 : Dev nD) (c1_i32_749 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v700 : BitVec 32 := Scalar.subi v2 c1_i32_749
  let c4_i32_750 : BitVec 32 := 4#32
  let c0_i32_751 : BitVec 32 := 0#32
  let v701 : BitVec 1 := Scalar.cmpi .eq c4_i32_750 c0_i32_751
  let c1_i32_752 : BitVec 32 := 1#32
  let v702 : BitVec 32 := Scalar.select v701 c1_i32_752 c4_i32_750
  let v703 : BitVec 32 := Scalar.remsi v700 v702
  let c0_i32_754 : BitVec 32 := 0#32
  let v705 : BitVec 1 := Scalar.cmpi .slt v703 c0_i32_754
  let c0_i32_755 : BitVec 32 := 0#32
  let v706 : BitVec 1 := Scalar.cmpi .slt v702 c0_i32_755
  let v707 : BitVec 1 := Scalar.xori v705 v706
  let c0_i32_753 : BitVec 32 := 0#32
  let v704 : BitVec 1 := Scalar.cmpi .ne v703 c0_i32_753
  let v708 : BitVec 1 := Scalar.andi v707 v704
  let v709 : BitVec 32 := Scalar.addi v703 v702
  let v710 : BitVec 32 := Scalar.select v708 v709 v703
  let c128_i32_773 : BitVec 32 := 128#32
  let v721 : BitVec 32 := Scalar.muli v710 c128_i32_773
  let v722 : Index := Scalar.indexCast v721
  let c0_774 : Index := 0#32
  ![v722.toNat, 0]
def k0_off7 (d0 : Dev nD) (c1_i32_827 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v772 : BitVec 32 := Scalar.subi v2 c1_i32_827
  let c4_i32_828 : BitVec 32 := 4#32
  let c0_i32_829 : BitVec 32 := 0#32
  let v773 : BitVec 1 := Scalar.cmpi .eq c4_i32_828 c0_i32_829
  let c1_i32_830 : BitVec 32 := 1#32
  let v774 : BitVec 32 := Scalar.select v773 c1_i32_830 c4_i32_828
  let v775 : BitVec 32 := Scalar.remsi v772 v774
  let c0_i32_832 : BitVec 32 := 0#32
  let v777 : BitVec 1 := Scalar.cmpi .slt v775 c0_i32_832
  let c0_i32_833 : BitVec 32 := 0#32
  let v778 : BitVec 1 := Scalar.cmpi .slt v774 c0_i32_833
  let v779 : BitVec 1 := Scalar.xori v777 v778
  let c0_i32_831 : BitVec 32 := 0#32
  let v776 : BitVec 1 := Scalar.cmpi .ne v775 c0_i32_831
  let v780 : BitVec 1 := Scalar.andi v779 v776
  let v781 : BitVec 32 := Scalar.addi v775 v774
  let v782 : BitVec 32 := Scalar.select v780 v781 v775
  let c128_i32_851 : BitVec 32 := 128#32
  let v793 : BitVec 32 := Scalar.muli v782 c128_i32_851
  let v794 : Index := Scalar.indexCast v793
  let c128_852 : Index := 128#32
  ![v794.toNat, 128]
def k0_off8 (d0 : Dev nD) (c1_i32_905 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v844 : BitVec 32 := Scalar.subi v2 c1_i32_905
  let c4_i32_906 : BitVec 32 := 4#32
  let c0_i32_907 : BitVec 32 := 0#32
  let v845 : BitVec 1 := Scalar.cmpi .eq c4_i32_906 c0_i32_907
  let c1_i32_908 : BitVec 32 := 1#32
  let v846 : BitVec 32 := Scalar.select v845 c1_i32_908 c4_i32_906
  let v847 : BitVec 32 := Scalar.remsi v844 v846
  let c0_i32_910 : BitVec 32 := 0#32
  let v849 : BitVec 1 := Scalar.cmpi .slt v847 c0_i32_910
  let c0_i32_911 : BitVec 32 := 0#32
  let v850 : BitVec 1 := Scalar.cmpi .slt v846 c0_i32_911
  let v851 : BitVec 1 := Scalar.xori v849 v850
  let c0_i32_909 : BitVec 32 := 0#32
  let v848 : BitVec 1 := Scalar.cmpi .ne v847 c0_i32_909
  let v852 : BitVec 1 := Scalar.andi v851 v848
  let v853 : BitVec 32 := Scalar.addi v847 v846
  let v854 : BitVec 32 := Scalar.select v852 v853 v847
  let c128_i32_929 : BitVec 32 := 128#32
  let v865 : BitVec 32 := Scalar.muli v854 c128_i32_929
  let v866 : Index := Scalar.indexCast v865
  let c256_930 : Index := 256#32
  ![v866.toNat, 256]
def k0_off9 (d0 : Dev nD) (c1_i32_983 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v916 : BitVec 32 := Scalar.subi v2 c1_i32_983
  let c4_i32_984 : BitVec 32 := 4#32
  let c0_i32_985 : BitVec 32 := 0#32
  let v917 : BitVec 1 := Scalar.cmpi .eq c4_i32_984 c0_i32_985
  let c1_i32_986 : BitVec 32 := 1#32
  let v918 : BitVec 32 := Scalar.select v917 c1_i32_986 c4_i32_984
  let v919 : BitVec 32 := Scalar.remsi v916 v918
  let c0_i32_988 : BitVec 32 := 0#32
  let v921 : BitVec 1 := Scalar.cmpi .slt v919 c0_i32_988
  let c0_i32_989 : BitVec 32 := 0#32
  let v922 : BitVec 1 := Scalar.cmpi .slt v918 c0_i32_989
  let v923 : BitVec 1 := Scalar.xori v921 v922
  let c0_i32_987 : BitVec 32 := 0#32
  let v920 : BitVec 1 := Scalar.cmpi .ne v919 c0_i32_987
  let v924 : BitVec 1 := Scalar.andi v923 v920
  let v925 : BitVec 32 := Scalar.addi v919 v918
  let v926 : BitVec 32 := Scalar.select v924 v925 v919
  let c128_i32_1007 : BitVec 32 := 128#32
  let v937 : BitVec 32 := Scalar.muli v926 c128_i32_1007
  let v938 : Index := Scalar.indexCast v937
  let c384_1008 : Index := 384#32
  ![v938.toNat, 384]
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512 : Shape := ⟨1, ![512]⟩
abbrev S16384x512 : Shape := ⟨2, ![16384, 512]⟩
abbrev S_ : Shape := ⟨0, ![]⟩
abbrev S512x1 : Shape := ⟨2, ![512, 1]⟩
abbrev S512x512 : Shape := ⟨2, ![512, 512]⟩

abbrev nBuf : Space → Nat
  | .hbm => 13
  | .vmem => 0
  | .smem => 0
  | _ => 0

abbrev bufTy : (tb : Table) → Fin (tcTables nBuf tb) → BufTy
  | .hbm, ⟨0, _⟩ => ⟨S512, .i32⟩
  | .hbm, ⟨1, _⟩ => ⟨S16384x512, .bf16⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .bf16⟩
  | .hbm, ⟨11, _⟩ => ⟨S512x512, .f32⟩
  | .hbm, ⟨12, _⟩ => ⟨S512x512, .bf16⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Lanes.lean ====
/- The geometry of the exchange: the devices' ring, the twelve lanes of each of the four exchange
   buffers (a lane is a column piece of 128 and a distance 1, 2 or 3 round the ring), the semaphore
   of each lane, and the values that travel. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

set_option maxRecDepth 16384

noncomputable section

namespace Cert.KernelIdeal.Run

open Idealize.ShloMosaic Idealize.ShloMosaic.TcCoe
open Idealize.SL Idealize.SL.Sem
open Cert.KernelIdeal Cert.KernelIdeal.Gen

variable {F : FTy → Type} [FloatOps F]

/-! ## The ring -/

/-- The device `e + 1` places after `c`. -/
def peer (c : Dev nD) (e : Fin 3) : Dev nD := ⟨(c.val + e.val + 1) % 4, Nat.mod_lt _ (by decide)⟩
/-- The device `e + 1` places before `c`. -/
def back (c : Dev nD) (e : Fin 3) : Dev nD := ⟨(c.val + 3 - e.val) % 4, Nat.mod_lt _ (by decide)⟩

/-- Going on and back again leads home. -/
theorem back_peer : ∀ (c : Dev nD) (e : Fin 3), back (peer c e) e = c := by decide
/-- Going back and on again leads home. -/
theorem peer_back : ∀ (c : Dev nD) (e : Fin 3), peer (back c e) e = c := by decide
/-- The distance there and the distance back make a whole round. -/
theorem peer_rev : ∀ (c : Dev nD) (e : Fin 3), peer (peer c e) e.rev = c := by decide
/-- Different distances lead to different devices. -/
theorem peer_inj : ∀ (c : Dev nD) (e e' : Fin 3), peer c e = peer c e' → e = e' := by decide

/-- Going `e + 1` places round the ring, as a permutation of the devices. -/
def ring (e : Fin 3) : Dev nD ≃ Dev nD := ⟨fun c => peer c e, fun c => back c e, fun c => back_peer c e, fun c => peer_back c e⟩

/-! ## The lanes -/

/-- A lane: which 128 columns, and how far round the ring (one less than the distance). -/
abbrev Lane : Type := Fin 4 × Fin 3

/-- A lane's block lies within its twelve-lane buffer. -/
theorem inb4 (i : Lane) : ∀ a, (![i.1.val, i.2.val, 0, 0] : Fin 4 → Nat) a + S1x1x128x128.size a ≤ S4x3x128x128.size a := by
  obtain ⟨h, e⟩ := i
  have h1 := h.isLt; have h2 := e.isLt
  intro a; fin_cases a
  · show h.val + 1 ≤ 4; omega
  · show e.val + 1 ≤ 3; omega
  · show 0 + 128 ≤ 128; omega
  · show 0 + 128 ≤ 128; omega

/-- The lane's block of a twelve-lane buffer. -/
abbrev rect4 (i : Lane) : Rect S4x3x128x128 :=
  Rect.unit (s := S4x3x128x128) ![i.1.val, i.2.val, 0, 0] S1x1x128x128.size (inb4 i)

/-- The lane's block as a 128 × 128 piece. -/
abbrev tile4 (M : Memref sig .tc .vmem S4x3x128x128 .bf16) (i : Lane) : Memref sig .tc .vmem S128x128 .bf16 :=
  (M.slice (rect4 i) (fun _ => rfl)).squeeze S128x128 squeezes_S1x1x128x128_S128x128

/-- A piece's block lies within its four-piece buffer. -/
theorem inb3 (h : Fin 4) : ∀ a, (![h.val, 0, 0] : Fin 3 → Nat) a + S1x128x128.size a ≤ S4x128x128.size a := by
  have h1 := h.isLt
  intro a; fin_cases a
  · show h.val + 1 ≤ 4; omega
  · show 0 + 128 ≤ 128; omega
  · show 0 + 128 ≤ 128; omega

/-- Column piece `h` of the four-piece buffer. -/
abbrev rect3 (h : Fin 4) : Rect S4x128x128 :=
  Rect.unit (s := S4x128x128) ![h.val, 0, 0] S1x128x128.size (inb3 h)

/-- The same as a 128 × 128 piece. -/
abbrev tile3 (M : Memref sig .tc .vmem S4x128x128 .bf16) (h : Fin 4) : Memref sig .tc .vmem S128x128 .bf16 :=
  (M.slice (rect3 h) (fun _ => rfl)).squeeze S128x128 squeezes_S1x128x128_S128x128

/-- The buffer the parts are sent from. -/
abbrev sendM : Memref sig .tc .vmem S4x3x128x128 .bf16 := Memref.whole cc0_scratch1
/-- The buffer the parts arrive in. -/
abbrev recvM : Memref sig .tc .vmem S4x3x128x128 .bf16 := Memref.whole cc0_scratch2
/-- The buffer the sums are sent from. -/
abbrev sumM : Memref sig .tc .vmem S4x128x128 .bf16 := Memref.whole cc0_scratch3
/-- The buffer the sums arrive in. -/
abbrev gathM : Memref sig .tc .vmem S4x3x128x128 .bf16 := Memref.whole cc0_scratch4

/-! ## The semaphores -/

/-- The completion semaphore of role `r` (0 parts sent, 1 parts received, 2 sums sent, 3 sums
    received) and lane `i`. -/
def dsem (r : Fin 4) (i : Lane) : DmaSem sig :=
  ⟨3 + 12 * r.val + 3 * i.1.val + i.2.val, by
    have := r.isLt; have := i.1.isLt; have := i.2.isLt; show _ < 51; omega⟩

/-- The role and lane of a completion semaphore, for those of the exchange. -/
def undsem (s : DmaSem sig) : Option (Fin 4 × Lane) :=
  if 3 ≤ s.val then
    some (⟨(s.val - 3) / 12, by have : s.val < 51 := s.isLt; omega⟩,
      (⟨(s.val - 3) % 12 / 3, by omega⟩, ⟨(s.val - 3) % 3, by omega⟩))
  else none

/-- The role and lane are read off the semaphore's number. -/
theorem undsem_dsem (r : Fin 4) (i : Lane) : undsem (dsem r i) = some (r, i) := by
  revert r i; decide

/-- Different roles and lanes have different completion semaphores. -/
theorem dsem_inj {r r' : Fin 4} {i i' : Lane} (h : dsem r i = dsem r' i') : r = r' ∧ i = i' := by
  have := congrArg undsem h
  rw [undsem_dsem, undsem_dsem] at this
  exact Prod.mk.inj (Option.some.inj this)

/-- The barrier. -/
abbrev barS : Sem sig := (SemArray.scalar (sig.barrier 0 rfl) : Sems sig S_).sem
/-- The barrier of device `c`. -/
abbrev barCell (c : Dev nD) : GSem nD τ sig := ((c : Thread nD τ), .reg barS)
/-- The completion semaphore of role `r` and lane `i` on device `c`. -/
abbrev cell (r : Fin 4) (c : Dev nD) (i : Lane) : GSem nD τ sig := ((c : Thread nD τ), .dma (dsem r i))

/-! ## The values -/

/-- The indices written twice, one copy after the other. -/
def ext (I : Vec F S512x1 .i32) : Vec F S1024x1 .i32 :=
  fun x => I fun a => ⟨(x a).val % S512x1.size a, Nat.mod_lt _ (by fin_cases a <;> decide)⟩

/-- The 256 indices device `c` looks up in its first (`k = 0`) and second (`k = 1`) pass. -/
def ids2 (I : Vec F S512x1 .i32) (c : Dev nD) (k : Fin 2) : Vec F S256x1 .i32 :=
  ((Memref.whole cc0_scratch0).access (Rect.unit (s := S1024x1) (k0_off1 c (BitVec.ofNat 32 (1 + 2 * k.val))) S256x1.size (k0_off1_inb c k))).read (Elt F) (ext I)

/-- Device `c`'s number, as the kernel computes it. -/
def word (c : Dev nD) : BitVec 32 := Scalar.remsi (Scalar.divsi (Dev.word c) 1#32) 4#32

/-- The rows the first pass finds in device `c`'s part of the table. -/
def passA (I : Vec F S512x1 .i32) (E : Vec F S4096x512 .bf16) (c : Dev nD) : FVec F S256x512 .bf16 :=
  k0_pay5 (k0_pay3 E) (k0_pay4 (word c) (ids2 I c 0))
/-- The rows the second pass finds. -/
def passB (I : Vec F S512x1 .i32) (E : Vec F S4096x512 .bf16) (c : Dev nD) : FVec F S256x512 .bf16 :=
  k0_pay17 (Scalar.muli (word c) 4096#32) (iota .tc S256x4096 32 [1] iota_S256x4096_d1_w32) (k0_pay3 E) (ids2 I c 1)

/-- The half of a pass's rows meant for the device `e + 1` places on. -/
def rowsFor (I : Vec F S512x1 .i32) (E : Vec F S4096x512 .bf16) (c : Dev nD) : Fin 3 → FVec F S128x512 .bf16
  | 0 => extractStridedSlice S128x512 ![0, 0] (passA I E c) slices_S256x512_o0_0_S128x512
  | 1 => extractStridedSlice S128x512 ![128, 0] (passA I E c) slices_S256x512_o128_0_S128x512
  | 2 => extractStridedSlice S128x512 ![0, 0] (passB I E c) slices_S256x512_o0_0_S128x512

/-- A column piece lies within the 512 columns. -/
theorem slices_col (h : Fin 4) : S128x512.Slices ![0, 128 * h.val] S128x128 := by revert h; decide

/-- Column piece `h` of 128 rows. -/
def cols (h : Fin 4) (x : FVec F S128x512 .bf16) : FVec F S128x128 .bf16 :=
  extractStridedSlice S128x128 ![0, 128 * h.val] x (slices_col h)

/-- Device `c`'s indices and part of the table, for each device. -/
structure Input (F : FTy → Type) where
  ids : Dev nD → Vec F S512x1 .i32
  tab : Dev nD → Vec F S4096x512 .bf16

variable (X : Input F)

/-- What device `c` sends down lane `i`. -/
def part (c : Dev nD) (i : Lane) : FVec F S128x128 .bf16 :=
  cols i.1 (rowsFor (X.ids c) (X.tab c) c i.2)

/-- Device `c`'s own rows, columns `h`, with what the three others send added, in the order the
    kernel adds them. -/
def total (c : Dev nD) (h : Fin 4) : FVec F S128x128 .bf16 :=
  addf (addf (addf (cols h (extractStridedSlice S128x512 ![128, 0] (passB (X.ids c) (X.tab c) c) slices_S256x512_o128_0_S128x512))
    (part X (back c 0) (h, 0))) (part X (back c 2) (h, 2))) (part X (back c 1) (h, 1))

end Cert.KernelIdeal.Run
-- ==== Proof.Protocol.lean ====
/- The exchange's protocol: every semaphore is waited on once; what each wait hands over; what a
   device owes the others, in the order it pays. -/
module

public import proofs.«01_k».proof.Proof.Lanes
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Ring
public import Idealize.ShloMosaic.PureOps
public import Idealize.ShloMosaic.Lib.Pipeline.RegionTalk
public import Idealize.ShloMosaic.Harness.Basic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The exchange's rounds. -/
abbrev UB : Type := URounds (GSem nD τ sig) (Fin 3)
/-- The ghost state: the pipeline's rounds and the exchange's. -/
abbrev UU : Type := UR sig nD τ × UB

local notation "𝕄" => MT nD τ sig Unit (Elt F) ℕ UU ℕ

/-- Where the pipeline's rounds lie in the ghost state. -/
abbrev EP : Emb (UR sig nD τ) (MT nD τ sig Unit (Elt F) ℕ UU ℕ) := embL
/-- Where the exchange's rounds lie in the ghost state. -/
abbrev ER : Emb UB (MT nD τ sig Unit (Elt F) ℕ UU ℕ) := embR

variable (X : Input F)

/-! ## Holding a piece -/

/-- Device `c`'s piece `T`, whatever it holds. -/
def anyOf (T : Memref sig .tc .vmem S128x128 .bf16) (c : Dev nD) : sProp 𝕄 :=
  iprop(∃ f : Buf (Elt F) (T.view.loc (c : Thread nD τ)), (T.view.loc (c : Thread nD τ) ↦[T.view.set]{fullShare} f))

/-- A share of device `c`'s piece `T`, holding the values `v`. -/
def holds (T : Memref sig .tc .vmem S128x128 .bf16) (c : Dev nD) (q : PosShare TreeShare) (v : FVec F S128x128 .bf16) : sProp 𝕄 :=
  iprop(∃ f : Buf (Elt F) (T.view.loc (c : Thread nD τ)), ⌜T.view.read (Elt F) f = v⌝ ∗ (T.view.loc (c : Thread nD τ) ↦[T.view.set]{q} f))

/-- The share of a sum's piece lent to the copy that goes `e + 1` places on. -/
def lend : Fin 3 → PosShare TreeShare
  | 0 => fullShare.right.left
  | 1 => fullShare.left
  | 2 => fullShare.right.right

/-- A piece with any contents may be handed over. -/
instance anyOf_storable (T : Memref sig .tc .vmem S128x128 .bf16) (c : Dev nD) :
    BI.Storable (upEmb : UEmb _ 𝕄) (anyOf (F := F) T c) := by unfold anyOf; infer_instance
/-- A piece with known contents may be handed over. -/
instance holds_storable (T : Memref sig .tc .vmem S128x128 .bf16) (c : Dev nD) (q : PosShare TreeShare) (v : FVec F S128x128 .bf16) :
    BI.Storable (upEmb : UEmb _ 𝕄) (holds (F := F) T c q v) := by unfold holds; infer_instance

/-- A piece with known contents is a piece with some contents. -/
theorem holds_any (T : Memref sig .tc .vmem S128x128 .bf16) (c : Dev nD) (v : FVec F S128x128 .bf16) :
    (holds T c fullShare v : sProp 𝕄) ⊢ anyOf T c := by
  unfold holds anyOf
  iintro ⟨%f, -, H⟩
  iexists f
  iexact H

/-! ## The schedule -/

/-- What crosses one lane, in units of the completion semaphore. -/
def N : ℕ := (tile4 recvM (0, 0)).view.dmaCredit

/-- Something crosses a lane. -/
theorem N_pos : 0 < N := by decide
/-- Every tile counts the same on a completion semaphore. -/
theorem N_tile (T : Memref sig .tc .vmem S128x128 .bf16) : T.view.dmaCredit = N := rfl

attribute [irreducible] N

/-- What the signal from the device `e + 1` places on hands over: that device's landing pieces for
    what comes from here, and that their semaphores are at the start. -/
def ready (c : Dev nD) (e : Fin 3) : sProp 𝕄 :=
  bigSep Finset.univ fun h : Fin 4 => iprop(
    (anyOf (tile4 recvM (h, e)) (peer c e) ∗ reached ER (cell 1 (peer c e) (h, e)) 0)
    ∗ (anyOf (tile4 gathM (h, e)) (peer c e) ∗ reached ER (cell 3 (peer c e) (h, e)) 0))

/-- What the completion of role `r`, lane `i` hands back to or brings to device `c`. -/
def brings (c : Dev nD) : Fin 4 → Lane → sProp 𝕄
  | 0, i => anyOf (tile4 sendM i) c
  | 1, i => holds (tile4 recvM i) c fullShare (part X (back c i.2) i)
  | 2, i => holds (tile3 sumM i.1) c (lend i.2) (total X c i.1)
  | 3, i => holds (tile4 gathM i) c fullShare (total X (back c i.2) i.1)

/-- What a signal hands over may be handed over. -/
instance ready_storable (c : Dev nD) (e : Fin 3) : BI.Storable (upEmb : UEmb _ 𝕄) (ready (F := F) c e) := by
  unfold ready; infer_instance
/-- What a copy's completion hands over may be handed over. -/
instance brings_storable (c : Dev nD) (r : Fin 4) (i : Lane) : BI.Storable (upEmb : UEmb _ 𝕄) (brings X c r i) := by
  unfold brings; split <;> infer_instance

/-- What a semaphore hands over. -/
def pay (c : Dev nD) (d : Fin 3) : SemLoc sig → sProp 𝕄
  | .reg _ => ready c d
  | .dma s => match undsem s with
    | some (r, i) => brings X c r i
    | none => iprop(emp)

/-- Who contributes to a semaphore's one wait: three devices to the barrier, one copy to a lane's. -/
def payers : SemLoc sig → Finset (Fin 3)
  | .reg _ => Finset.univ
  | .dma s => if (undsem s).isSome then {0} else ∅

/-- What one contribution counts: one for a signal, a tile for a copy. -/
def units : SemLoc sig → ℕ
  | .reg _ => 1
  | .dma _ => N

/-- One round on every semaphore of the exchange. -/
def rd : Rounds.Schedule (GSem nD τ sig) (Fin 3) 𝕄 where
  duties g r := if r = 0 ∧ g.1.2 = .tc then payers g.2 else ∅
  unitless _ := False
  amount g _ _ := units g.2
  payload g _ d := pay X g.1.1 d g.2
  amount_pos g _ _ _ := by
    show 0 < units g.2
    unfold units; split
    · exact Nat.one_pos
    · exact N_pos

/-- Everything the schedule hands over may be handed over. -/
instance rd_storable (g : GSem nD τ sig) (r : ℕ) (d : Fin 3) :
    BI.Storable (upEmb : UEmb _ 𝕄) ((rd X).payload g r d) := by
  show BI.Storable upEmb (pay X g.1.1 d g.2)
  unfold pay
  split
  · infer_instance
  · split <;> infer_instance

section Tables
variable (c : Dev nD) (r : Fin 4) (i : Lane)

/-- All three other devices contribute to a barrier. -/
theorem duties_bar : (rd X).duties (barCell c) 0 = Finset.univ := by
  show (if (0 : ℕ) = 0 ∧ (barCell c).1.2 = .tc then payers (barCell c).2 else ∅) = _
  rw [if_pos ⟨rfl, rfl⟩]; rfl
/-- One copy contributes to a lane's semaphore. -/
theorem duties_lane : (rd X).duties (cell r c i) 0 = {0} := by
  show (if (0 : ℕ) = 0 ∧ (cell r c i).1.2 = .tc then payers (cell r c i).2 else ∅) = _
  rw [if_pos ⟨rfl, rfl⟩]
  show (if (undsem (dsem r i)).isSome then ({0} : Finset (Fin 3)) else ∅) = _
  rw [undsem_dsem]; rfl
/-- There is only one round. -/
theorem duties_later (g : GSem nD τ sig) : ∀ r, 1 ≤ r → (rd X).duties g r = ∅ :=
  fun r hr => if_neg fun h => by omega
/-- What a barrier's signal hands over. -/
theorem payload_bar (d : Fin 3) : (rd X).payload (barCell c) 0 d = ready c d := rfl
/-- What a lane's copy hands over. -/
theorem payload_lane (d : Fin 3) : (rd X).payload (cell r c i) 0 d = brings X c r i := by
  show (match undsem (dsem r i) with | some (r, i) => brings X c r i | none => iprop(emp)) = _
  rw [undsem_dsem]
/-- The wait at the barrier is for three. -/
theorem expect_bar : (rd X).expect (barCell c) 0 = 3 := by
  unfold Schedule.expect Schedule.amountOf
  rw [duties_bar]
  show (∑ _d : Fin 3, 1) = 3
  rfl
/-- The wait on a lane is for one tile. -/
theorem expect_lane : (rd X).expect (cell r c i) 0 = N := by
  unfold Schedule.expect Schedule.amountOf
  rw [duties_lane, Finset.sum_singleton]; rfl
/-- All that the wait at the barrier hands over. -/
theorem rest_bar : bigSep ((rd X).duties (barCell c) 0 \ ∅) (fun d => (rd X).payload (barCell c) 0 d)
    = bigSep Finset.univ fun e : Fin 3 => ready (F := F) c e := by
  rw [Finset.sdiff_empty, duties_bar]; rfl
/-- All that the wait on a lane hands over. -/
theorem rest_lane : bigSep ((rd X).duties (cell r c i) 0 \ ∅) (fun d => (rd X).payload (cell r c i) 0 d) = brings X c r i := by
  rw [Finset.sdiff_empty, duties_lane, bigSep_singleton, payload_lane]

end Tables

/-! ## What a device owes -/

/-- What is still owed when, of lanes that fall due at the steps `due`, `n` steps are done. -/
def debt (g : Lane → GSem nD τ sig) (due : Lane → ℕ) (n : ℕ) : CellTallies nD τ sig Unit :=
  ∑ i, if n < due i then tallyAt (g i) () N else 0

/-- A step at which no lane falls due pays nothing. -/
theorem debt_same (g : Lane → GSem nD τ sig) (due : Lane → ℕ) (n : ℕ) (h : ∀ i, due i ≠ n + 1) :
    debt g due n = debt g due (n + 1) := by
  refine Finset.sum_congr rfl fun i _ => ?_
  have := h i
  by_cases hi : n < due i
  · rw [if_pos hi, if_pos (by omega)]
  · rw [if_neg hi, if_neg (by omega)]

/-- A step at which a lane falls due pays that lane's debt. -/
theorem debt_pay (g : Lane → GSem nD τ sig) (due : Lane → ℕ) (hdue : Function.Injective due) (n : ℕ) (i : Lane) (h : due i = n + 1) :
    debt g due n = debt g due (n + 1) + tallyAt (g i) () N := by
  unfold debt
  rw [← Finset.add_sum_erase _ _ (Finset.mem_univ i), ← Finset.add_sum_erase (a := i) _ (fun i => if n + 1 < due i then tallyAt (g i) () N else 0) (Finset.mem_univ i),
    if_pos (by omega), if_neg (by omega), zero_add, add_comm]
  congr 1
  refine Finset.sum_congr rfl fun j hj => ?_
  have hne : due j ≠ n + 1 := fun e => (Finset.mem_erase.mp hj).1 (hdue (e.trans h.symm))
  by_cases hi : n < due j
  · rw [if_pos hi, if_pos (by omega)]
  · rw [if_neg hi, if_neg (by omega)]

/-- When all lanes have fallen due nothing is owed. -/
theorem debt_done (g : Lane → GSem nD τ sig) (due : Lane → ℕ) (n : ℕ) (h : ∀ i, due i ≤ n) : debt g due n = 0 :=
  Finset.sum_eq_zero fun i _ => if_neg (by have := h i; omega)

/-- Only the lanes' semaphores are owed on. -/
theorem debt_pos (g : Lane → GSem nD τ sig) (due : Lane → ℕ) (n : ℕ) (g' : GSem nD τ sig) (u : Unit)
    (h : 0 < debt g due n g' u) : ∃ i, g' = g i := by
  by_contra hne
  push Not at hne
  refine absurd h (Nat.not_lt.mpr (le_of_eq ?_))
  unfold debt
  rw [Finset.sum_apply, Finsupp.finset_sum_apply]
  refine Finset.sum_eq_zero fun i _ => ?_
  split
  · rw [tallyAt_apply, if_neg fun e => hne i e.1]
  · rfl

/-- The order of the lanes in the sending of the parts. -/
def rankS (i : Lane) : ℕ := (match i.2 with | 0 => 4 | 1 => 0 | 2 => 8) + i.1.val
/-- The order of the lanes in the waits for what arrives. -/
def rankR (i : Lane) : ℕ := 3 * i.1.val + (match i.2 with | 0 => 0 | 1 => 2 | 2 => 1)
/-- The order of the lanes in the waits for what has left. -/
def rankW (i : Lane) : ℕ := 3 * i.1.val + i.2.val
/-- After how many steps (store, send, store, send, …) the part of lane `i` has left. -/
def dueS (i : Lane) : ℕ := 2 * rankS i + 2
/-- After how many steps (store, three sends, store, …) the sum of lane `i` has left. -/
def dueG (i : Lane) : ℕ := 4 * i.1.val + (match i.2 with | 0 => 3 | 1 => 2 | 2 => 4)

/-- The sending of the parts takes the lanes one by one. -/
theorem rankS_inj : Function.Injective rankS := by unfold Function.Injective; decide
/-- The waits for what arrives take the lanes one by one. -/
theorem rankR_inj : Function.Injective rankR := by unfold Function.Injective; decide
/-- The waits for what has left take the lanes one by one. -/
theorem rankW_inj : Function.Injective rankW := by unfold Function.Injective; decide
/-- No two parts fall due at the same step. -/
theorem dueS_inj : Function.Injective dueS := by unfold Function.Injective; decide
/-- No two sums fall due at the same step. -/
theorem dueG_inj : Function.Injective dueG := by unfold Function.Injective; decide

/-- The semaphores device `c`'s sends complete on the other devices. -/
abbrev far (r : Fin 4) (c : Dev nD) (i : Lane) : GSem nD τ sig := cell r (peer c i.2) i

/-- What device `c` owes after `n` steps of sending parts and `k` of sending sums. -/
def owed (c : Dev nD) (n k : ℕ) : CellTallies nD τ sig Unit := debt (far 1 c) dueS n + debt (far 3 c) dueG k

/-- What device `c` owes at the start: the three signals too. -/
def owed₀ (c : Dev nD) : CellTallies nD τ sig Unit :=
  owed c 0 0 + tallyAt (barCell (peer c 2)) () 1 + tallyAt (barCell (peer c 1)) () 1 + tallyAt (barCell (peer c 0)) () 1

/-! ## The order of the waits -/

/-- Every semaphore of a device's core is waited on in one way. -/
def L (g : GSem nD τ sig) : Finset Unit := if g.1.2 = .tc then {()} else ∅

/-- Barrier first, then the parts, then the sums. -/
def lvl : SemLoc sig → ℕ
  | .reg _ => 1
  | .dma s => match undsem s with
    | some (1, _) => 2
    | some (3, _) => 3
    | _ => 0
/-- The place of a semaphore in the order of the waits. -/
def lv (g : GSem nD τ sig) (_ : Unit) : ℕ := lvl g.2

/-- Other units have no waits. -/
theorem L_of_ne (g : GSem nD τ sig) (h : g.1.2 ≠ .tc) : L g = ∅ := if_neg h
/-- The core's semaphores have one way of waiting. -/
theorem L_tc (c : Dev nD) (sm : SemLoc sig) : L ((c : Thread nD τ), sm) = {()} := if_pos rfl

/-- The parts come second. -/
theorem lv_part (c : Dev nD) (i : Lane) (u : Unit) : lv (cell 1 c i) u = 2 := by
  show (match undsem (dsem 1 i) with | some (1, _) => 2 | some (3, _) => 3 | _ => 0) = 2
  rw [undsem_dsem]; rfl
/-- The sums come third. -/
theorem lv_sum (c : Dev nD) (i : Lane) (u : Unit) : lv (cell 3 c i) u = 3 := by
  show (match undsem (dsem 3 i) with | some (1, _) => 2 | some (3, _) => 3 | _ => 0) = 3
  rw [undsem_dsem]; rfl

/-- Only parts and sums of other devices are owed after the barrier's signals. -/
theorem owed_pos (c : Dev nD) (n k : ℕ) (g : GSem nD τ sig) (u : Unit) (h : 0 < owed c n k g u) :
    (∃ i, g = far 1 c i) ∨ (∃ i, g = far 3 c i) := by
  rcases Nat.eq_zero_or_pos (debt (far 1 c) dueS n g u) with h1 | h1
  · refine .inr (debt_pos _ dueG k g u ?_)
    have : owed c n k g u = debt (far 1 c) dueS n g u + debt (far 3 c) dueG k g u := rfl
    omega
  · exact .inl (debt_pos _ dueS n g u h1)

/-- The barrier may be waited on while only parts and sums are owed. -/
theorem may_bar (c : Dev nD) (n k : ℕ) :
    (levAts L lv : sProp 𝕄) ⊢ MayWait (c : Thread nD τ) (.reg barS) () (owed c n k) :=
  MayOwe.of_cut (L := L) (lev := lv) 1 (fun p hp => by rw [Finset.mem_singleton.mp hp, L_tc]; exact Finset.mem_singleton_self _)
    (fun g u hg => by
      rcases owed_pos c n k g u hg with ⟨i, rfl⟩ | ⟨i, rfl⟩ <;> (rw [L_tc]; exact Finset.mem_singleton_self _))
    (fun p hp => by rw [Finset.mem_singleton.mp hp]; exact le_refl 1)
    (fun g u hg => by
      rcases owed_pos c n k g u hg with ⟨i, rfl⟩ | ⟨i, rfl⟩
      · rw [lv_part]; decide
      · rw [lv_sum]; decide)

/-- A part may be waited for once all parts are sent. -/
theorem may_part (c : Dev nD) (i : Lane) (k : ℕ) :
    (levAts L lv : sProp 𝕄) ⊢ MayWait (c : Thread nD τ) (.dma (dsem 1 i)) () (owed c 24 k) := by
  have h24 : owed c 24 k = debt (far 3 c) dueG k := by
    unfold owed; rw [debt_done _ _ 24 (by decide), zero_add]
  rw [h24]
  exact MayOwe.of_cut (L := L) (lev := lv) 2 (fun p hp => by rw [Finset.mem_singleton.mp hp, L_tc]; exact Finset.mem_singleton_self _)
    (fun g u hg => by
      obtain ⟨i, rfl⟩ := debt_pos _ _ _ _ _ hg; rw [L_tc]; exact Finset.mem_singleton_self _)
    (fun p hp => by rw [Finset.mem_singleton.mp hp]; exact le_of_eq (lv_part c i ()))
    (fun g u hg => by obtain ⟨i, rfl⟩ := debt_pos _ _ _ _ _ hg; rw [lv_sum]; decide)

/-- When everything is sent nothing is owed. -/
theorem owed_done (c : Dev nD) : owed c 24 16 = 0 := by
  unfold owed; rw [debt_done _ _ 24 (by decide), debt_done _ _ 16 (by decide), add_zero]

end Cert.KernelIdeal.Run
-- ==== Proof.Local.lean ====
/- The kernel's operations one at a time: what each needs and what it leaves. -/
module

public import proofs.«01_k».proof.Proof.Protocol

public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)

/-- Running the rest `p` of the kernel's body on device `c` to the postcondition `Q`. -/
abbrev Runs (c : Dev nD) (p : Prog (TpuEff nD τ sig (Elt F) Λ₀ .tc) PUnit) (Q : PUnit → sProp 𝕄) : sProp 𝕄 :=
  wp frame (wpE (defs₀ (F := F)) Variants.none (c : Thread nD τ) none) Set.univ p Q

/-- The invariants of every semaphore of the exchange, and the order of the waits. -/
def pers (κ : GSem nD τ sig → ℕ) : sProp 𝕄 :=
  iprop((bigSep Finset.univ fun c : Dev nD => cellInv ER (rd X) (κ (barCell c)) (barCell c))
    ∗ (bigSep Finset.univ fun p : Dev nD × Fin 4 × Lane => cellInv ER (rd X) (κ (cell p.2.1 p.1 p.2.2)) (cell p.2.1 p.1 p.2.2))
    ∗ levAts L lv)

/-- What all steps consult may be consulted again and again. -/
instance pers_persistent (κ : GSem nD τ sig → ℕ) : BI.Persistent (pers X κ) := by unfold pers; infer_instance

/-- The barrier's invariant is among them. -/
theorem pers_bar (κ : GSem nD τ sig → ℕ) (c : Dev nD) : pers X κ ⊢ cellInv ER (rd X) (κ (barCell c)) (barCell c) := by
  unfold pers
  iintro ⟨H, -, -⟩
  have h : (bigSep Finset.univ fun c : Dev nD => cellInv ER (rd X) (κ (barCell c)) (barCell c)) ⊢ cellInv ER (rd X) (κ (barCell c)) (barCell c) :=
    bigSep_elim (Finset.mem_univ c)
  iapply h $$ H

/-- So is the invariant of each lane's semaphore. -/
theorem pers_cell (κ : GSem nD τ sig → ℕ) (r : Fin 4) (c : Dev nD) (i : Lane) :
    pers X κ ⊢ cellInv ER (rd X) (κ (cell r c i)) (cell r c i) := by
  unfold pers
  iintro ⟨-, H, -⟩
  have h : (bigSep Finset.univ fun p : Dev nD × Fin 4 × Lane => cellInv ER (rd X) (κ (cell p.2.1 p.1 p.2.2)) (cell p.2.1 p.1 p.2.2))
      ⊢ cellInv ER (rd X) (κ (cell r c i)) (cell r c i) := bigSep_elim (Finset.mem_univ ((c, r, i) : Dev nD × Fin 4 × Lane))
  iapply h $$ H

/-- So is the order of the waits. -/
theorem pers_lev (κ : GSem nD τ sig → ℕ) : pers X κ ⊢ (levAts L lv : sProp 𝕄) := by
  unfold pers
  iintro ⟨-, -, H⟩
  iexact H

/-! ## Pieces and blocks -/

/-- The places of a lane's tile are those of its block. -/
theorem set_tile4 (M : Memref sig .tc .vmem S4x3x128x128 .bf16) (i : Lane) :
    (tile4 M i).view.set = (M.access (rect4 i)).set := View.set_reshape _ _
/-- The places of a piece's tile are those of its block. -/
theorem set_tile3 (M : Memref sig .tc .vmem S4x128x128 .bf16) (h : Fin 4) :
    (tile3 M h).view.set = (M.access (rect3 h)).set := View.set_reshape _ _

variable {c : Dev nD} {k : PUnit → Prog (TpuEff nD τ sig (Elt F) Λ₀ .tc) PUnit}
variable {Q : PUnit → sProp (MT nD τ sig Unit (Elt F) ℕ UU ℕ)}

/-- A piece whose buffer reads as `v` holds `v`. -/
theorem holds_intro (T : Memref sig .tc .vmem S128x128 .bf16) (c : Dev nD) (q : PosShare TreeShare) (v : FVec F S128x128 .bf16)
    (f : Buf (Elt F) (T.view.loc (c : Thread nD τ))) (hf : T.view.read (Elt F) f = v) :
    (T.view.loc (c : Thread nD τ) ↦[T.view.set]{q} f) ⊢ (holds T c q v : sProp 𝕄) := by
  unfold holds
  iintro H
  iexists f
  isplitr; · ipureintro; exact hf
  iexact H

/-- Loading a lane's block, whatever it holds. -/
theorem load4_any (M : Memref sig .tc .vmem S4x3x128x128 .bf16) (i : Lane) {hl : M.view.LoadsAt (rect4 i).toLoadRect}
    {k : Vec F S1x1x128x128 .bf16 → Prog (TpuEff nD τ sig (Elt F) Λ₀ .tc) PUnit} :
    (anyOf (tile4 M i) c : sProp 𝕄) ⊢ iprop((anyOf (tile4 M i) c -∗ ∀ v, Runs c (k v) Q)
      -∗ Runs c (.op (.load M (rect4 i).toLoadRect hl) k) Q) := by
  unfold anyOf
  iintro ⟨%f, H⟩ Hk
  iapply (wp_load_rect Variants.none (c : Thread nD τ) none Set.univ (m := M) (r := rect4 i) (S := (tile4 M i).view.set) (set_tile4 M i).ge) $$ [H]
  · iexact H
  iintro H
  ihave Hk := Hk $$ [H]
  · iexists f; iexact H
  ispecialize Hk $$ %((M.access (rect4 i)).read (Elt F) f)
  iexact Hk

/-- Loading a lane's block that holds `v`. -/
theorem load4_holds (M : Memref sig .tc .vmem S4x3x128x128 .bf16) (i : Lane) (q : PosShare TreeShare) (v : FVec F S128x128 .bf16) {hl : M.view.LoadsAt (rect4 i).toLoadRect}
    {k : Vec F S1x1x128x128 .bf16 → Prog (TpuEff nD τ sig (Elt F) Λ₀ .tc) PUnit} :
    (holds (tile4 M i) c q v : sProp 𝕄) ⊢ iprop((holds (tile4 M i) c q v -∗ Runs c (k (shapeCast S1x1x128x128 v shapeCasts_S128x128_S1x1x128x128)) Q)
      -∗ Runs c (.op (.load M (rect4 i).toLoadRect hl) k) Q) := by
  unfold holds
  iintro ⟨%f, %hf, H⟩ Hk
  iapply (wp_load_rect Variants.none (c : Thread nD τ) none Set.univ (m := M) (r := rect4 i) (S := (tile4 M i).view.set) (set_tile4 M i).ge) $$ [H]
  · iexact H
  iintro H
  have hv : (M.access (rect4 i)).read (Elt F) f = shapeCast S1x1x128x128 v shapeCasts_S128x128_S1x1x128x128 := by
    rw [← hf]
    exact (shapeCast_shapeCast ((M.access (rect4 i)).read (Elt F) f) shapeCasts_S1x1x128x128_S128x128 shapeCasts_S128x128_S1x1x128x128).symm
  rw [hv]
  iapply Hk
  iexists f
  isplitr; · ipureintro; exact hf
  iexact H

/-- Storing a lane's block. -/
theorem store4 (M : Memref sig .tc .vmem S4x3x128x128 .bf16) (i : Lane) (v : FVec F S128x128 .bf16) {hx : (M.access (rect4 i)).Stores Finset.univ} {hm : (Finset.univ : Finset (rect4 i).shape.Idx) = Finset.univ ∨ ∀ a, (rect4 i).stride a = 1}
    {w : Vec F S1x1x128x128 .bf16} (hw : w = shapeCast S1x1x128x128 v shapeCasts_S128x128_S1x1x128x128) :
    (anyOf (tile4 M i) c : sProp 𝕄) ⊢ iprop((holds (tile4 M i) c fullShare v -∗ Runs c (k ⟨⟩) Q)
      -∗ Runs c (.op (.store M (rect4 i) w Finset.univ hx hm) k) Q) := by
  unfold anyOf holds
  iintro ⟨%f, H⟩ Hk
  iapply (wp_store Variants.none (c : Thread nD τ) none Set.univ (m := M) (r := rect4 i) (S := (tile4 M i).view.set)
    (by rw [View.setOn_univ]; exact (set_tile4 M i).ge)) $$ [H]
  · iexact H
  iintro H
  iapply Hk
  iexists ((M.access (rect4 i)).write (Elt F) f w Finset.univ)
  isplitr
  · ipureintro
    show shapeCast S128x128 ((M.access (rect4 i)).read (Elt F) ((M.access (rect4 i)).write (Elt F) f w Finset.univ)) shapeCasts_S1x1x128x128_S128x128 = v
    rw [View.read_write_univ, hw]
    exact shapeCast_shapeCast v shapeCasts_S128x128_S1x1x128x128 shapeCasts_S1x1x128x128_S128x128
  iexact H

/-- Loading a sum's block, whatever it holds. -/
theorem load3_any (M : Memref sig .tc .vmem S4x128x128 .bf16) (h : Fin 4) {hl : M.view.LoadsAt (rect3 h).toLoadRect}
    {k : Vec F S1x128x128 .bf16 → Prog (TpuEff nD τ sig (Elt F) Λ₀ .tc) PUnit} :
    (anyOf (tile3 M h) c : sProp 𝕄) ⊢ iprop((anyOf (tile3 M h) c -∗ ∀ v, Runs c (k v) Q)
      -∗ Runs c (.op (.load M (rect3 h).toLoadRect hl) k) Q) := by
  unfold anyOf
  iintro ⟨%f, H⟩ Hk
  iapply (wp_load_rect Variants.none (c : Thread nD τ) none Set.univ (m := M) (r := rect3 h) (S := (tile3 M h).view.set) (set_tile3 M h).ge) $$ [H]
  · iexact H
  iintro H
  ihave Hk := Hk $$ [H]
  · iexists f; iexact H
  ispecialize Hk $$ %((M.access (rect3 h)).read (Elt F) f)
  iexact Hk

/-- Storing a sum's block. -/
theorem store3 (M : Memref sig .tc .vmem S4x128x128 .bf16) (h : Fin 4) (v : FVec F S128x128 .bf16) {hx : (M.access (rect3 h)).Stores Finset.univ} {hm : (Finset.univ : Finset (rect3 h).shape.Idx) = Finset.univ ∨ ∀ a, (rect3 h).stride a = 1}
    {w : Vec F S1x128x128 .bf16} (hw : w = shapeCast S1x128x128 v shapeCasts_S128x128_S1x128x128) :
    (anyOf (tile3 M h) c : sProp 𝕄) ⊢ iprop((holds (tile3 M h) c fullShare v -∗ Runs c (k ⟨⟩) Q)
      -∗ Runs c (.op (.store M (rect3 h) w Finset.univ hx hm) k) Q) := by
  unfold anyOf holds
  iintro ⟨%f, H⟩ Hk
  iapply (wp_store Variants.none (c : Thread nD τ) none Set.univ (m := M) (r := rect3 h) (S := (tile3 M h).view.set)
    (by rw [View.setOn_univ]; exact (set_tile3 M h).ge)) $$ [H]
  · iexact H
  iintro H
  iapply Hk
  iexists ((M.access (rect3 h)).write (Elt F) f w Finset.univ)
  isplitr
  · ipureintro
    show shapeCast S128x128 ((M.access (rect3 h)).read (Elt F) ((M.access (rect3 h)).write (Elt F) f w Finset.univ)) shapeCasts_S1x128x128_S128x128 = v
    rw [View.read_write_univ, hw]
    exact shapeCast_shapeCast v shapeCasts_S128x128_S1x128x128 shapeCasts_S1x128x128_S128x128
  iexact H

/-- A piece in hand is three shares of it, one for each copy. -/
theorem holds_lend (T : Memref sig .tc .vmem S128x128 .bf16) (c : Dev nD) (v : FVec F S128x128 .bf16) :
    (holds T c fullShare v : sProp 𝕄) ⊢ iprop(holds T c (lend 1) v ∗ holds T c (lend 0) v ∗ holds T c (lend 2) v) := by
  unfold holds
  iintro ⟨%f, %hf, H⟩
  ihave H := (pointsTo_share (PosShare.mem_left_op_right fullShare)).1 $$ H
  icases H with ⟨H1, H⟩
  ihave H := (pointsTo_share (PosShare.mem_left_op_right fullShare.right)).1 $$ H
  icases H with ⟨H0, H2⟩
  isplitl [H1]
  · iexists f
    isplitr; · ipureintro; exact hf
    iexact H1
  isplitl [H0]
  · iexists f
    isplitr; · ipureintro; exact hf
    iexact H0
  · iexists f
    isplitr; · ipureintro; exact hf
    iexact H2

/-- The three shares make the piece again. -/
theorem lend_any (T : Memref sig .tc .vmem S128x128 .bf16) (c : Dev nD) (v : FVec F S128x128 .bf16) :
    iprop(holds T c (lend 1) v ∗ holds T c (lend 0) v ∗ holds T c (lend 2) v) ⊢ (anyOf T c : sProp 𝕄) := by
  unfold holds anyOf
  iintro ⟨⟨%f, -, H1⟩, ⟨%f', -, H0⟩, ⟨%f'', -, H2⟩⟩
  icombine H0 H2 gives %h2
  ihave H2 := (Entails.of_eq (pointsTo_congr (g := f') fun j hj => (h2 j (Finset.mem_inter.mpr ⟨hj, hj⟩)).1.symm)) $$ H2
  ihave H := (pointsTo_share (PosShare.mem_left_op_right fullShare.right)).2 $$ [H0 H2]
  · isplitl [H0]; · iexact H0
    iexact H2
  icombine H1 H gives %h1
  ihave H := (Entails.of_eq (pointsTo_congr (g := f) fun j hj => (h1 j (Finset.mem_inter.mpr ⟨hj, hj⟩)).1.symm)) $$ H
  ihave H := (pointsTo_share (PosShare.mem_left_op_right fullShare)).2 $$ [H1 H]
  · isplitl [H1]; · iexact H1
    iexact H
  iexists f
  iexact H

/-! ## Copies and waits -/

/-- The rights to send lane `i` in role `r`, to be received in role `r'` in piece `T'`. -/
def rights (r r' : Fin 4) (T' : Memref sig .tc .vmem S128x128 .bf16) (c : Dev nD) (i : Lane) : sProp 𝕄 :=
  iprop((dutyTok ER (cell r c i) 0 0 ∗ reached ER (cell r c i) 0) ∗ dutyTok ER (far r' c i) 0 0
    ∗ (anyOf T' (peer c i.2) ∗ reached ER (far r' c i) 0))

/-- What device `c` owes, whatever it has waited for. -/
def owing (c : Dev nD) (O : CellTallies nD τ sig Unit) : sProp 𝕄 := iprop(∃ W, owes (c : Thread nD τ) O W)

/-- Sending a lane. -/
theorem send_lane (κ : GSem nD τ sig → ℕ) (r r' : Fin 4) (i : Lane) (T T' : Memref sig .tc .vmem S128x128 .bf16) (q : PosShare TreeShare)
    (v : FVec F S128x128 .bf16) (hN : T'.view.dmaCredit = N)
    (hb : holds T c q v ⊢ brings X c r i) (hb' : holds T' (peer c i.2) fullShare v ⊢ brings X (peer c i.2) r' i)
    {dv : Dev nD} (hdv : dv = peer c i.2) {sS sR : DmaSem sig} (hS : sS = dsem r i) (hR : sR = dsem r' i)
    {hsc h1 h2 h3} (O₀ O : CellTallies nD τ sig Unit) (hO : O₀ = O + tallyAt (far r' c i) () N) :
    iprop(pers X κ ∗ holds T c q v ∗ rights r r' T' c i ∗ owing c O₀)
      ⊢ iprop(((cred (tallyAt (cell r c i) () N) ∗ owing c O) -∗ Runs c (k ⟨⟩) Q)
        -∗ Runs c (.op (.enqueueDma T (.remote (Dev.tc dv) T' (.dma sS) hsc) (.dma sR) h1 h2 h3) k) Q) := by
  subst hdv hS hR
  unfold owing rights anyOf
  iintro ⟨#HP, Hv, ⟨⟨Ht, #Hr⟩, Ht', ⟨%fd, Hd⟩, #Hr'⟩, ⟨%W, HO⟩⟩ Hk
  unfold holds
  icases Hv with ⟨%f, %hf, H⟩
  iapply (Rounds.wp_send_pointsTo Variants.none ER (rd X) (c : Thread nD τ) none (c' := ((peer c i.2 : Dev nD) : Thread nD τ)) (src := T) (dst := T')
      (sS := .dma (dsem r i)) (sem := .dma (dsem r' i)) (q := q) (fs := f) (κ₁ := κ (cell r c i)) (κ₂ := κ (far r' c i))
      (r₁ := 0) (r₂ := 0) (d₁ := 0) (d₂ := 0) (fd := fd)
      (by rw [duties_lane]; exact Finset.mem_singleton_self _) (by rw [duties_lane]; exact Finset.mem_singleton_self _)
      () () N hN rfl rfl O hO (W := W)
      (by rw [payload_lane]; exact (holds_intro T c q v f hf).trans hb)
      (by rw [payload_lane]; exact (holds_intro T' (peer c i.2) fullShare v _ ((View.read_write_univ _ _).trans hf)).trans hb')) $$ [H Hd HO Ht Ht']
  · isplitr; · iapply (pers_cell X κ r c i); iexact HP
    isplitr; · iapply (pers_cell X κ r' (peer c i.2) i); iexact HP
    isplitl [H]; · iexact H
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W
  iexact HO

/-- Before (0) and after (1) the wait for lane `i` in role `r`. -/
def waited (r : Fin 4) (c : Dev nD) (i : Lane) : ℕ → sProp 𝕄
  | 0 => iprop(cred (tallyAt (cell r c i) () N) ∗ atPos ER (cell r c i) 0 ∅ 0)
  | _ + 1 => iprop(brings X c r i ∗ atPos ER (cell r c i) 1 ∅ 0)

/-- Waiting for a lane. -/
theorem wait_lane (κ : GSem nD τ sig → ℕ) (r : Fin 4) (i : Lane) {T T' : Memref sig .tc .vmem S128x128 .bf16} (hN : T'.view.dmaCredit = N)
    {s : DmaSem sig} (hs : s = dsem r i) {h1 h2} (O : CellTallies nD τ sig Unit)
    (hM : (levAts L lv : sProp 𝕄) ⊢ MayWait (c : Thread nD τ) (.dma (dsem r i)) () O) :
    iprop(pers X κ ∗ waited X r c i 0 ∗ owing c O)
      ⊢ iprop(((waited X r c i 1 ∗ owing c O) -∗ Runs c (k ⟨⟩) Q)
        -∗ Runs c (.op (.waitDma2 s T T' h1 h2) k) Q) := by
  subst hs
  unfold owing waited
  iintro ⟨#HP, ⟨Hc, Ha⟩, ⟨%W, HO⟩⟩ Hk
  iapply (Rounds.wp_wait_rest_token Variants.none ER (rd X) (c : Thread nD τ) none (κ := κ (cell r c i))
      (wpE_waitDma2_eq (src := T) (dst := T') Variants.none (c : Thread nD τ) none Set.univ) (Set.mem_univ _) () (O := O) (W := W) (R := 0) (m := 0) (T := ∅)
      ((Nat.zero_add _).trans (hN.trans (expect_lane X c r i).symm))) $$ [Hc HO Ha]
  · isplitr; · iapply (pers_cell X κ r c i); iexact HP
    isplitl [Hc]; · rw [hN]; iexact Hc
    isplitl [HO]; · iexact HO
    isplitr; · iapply hM; iapply (pers_lev X κ); iexact HP
    iexact Ha
  iintro ⟨HO, Ha, -, Hp⟩
  ihave Hp := (Entails.of_eq (rest_lane X c r i)) $$ Hp
  iapply Hk
  isplitl [Hp Ha]
  · isplitl [Hp]; · iexact Hp
    iexact Ha
  iexists _
  iexact HO

end Cert.KernelIdeal.Run
-- ==== Proof.State.lean ====
/- Where a device stands in the exchange, as one assertion that advances by counting. -/
module

public import proofs.«01_k».proof.Proof.Local

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families that advance one member at a time -/

/-- A family whose member `i` goes through `s` stages, the members in the order `rk`: where it
    stands after `n` stages altogether. -/
def fam {ι : Type} [Fintype ι] (P : ι → ℕ → sProp 𝕄) (s : ℕ) (rk : ι → ℕ) (n : ℕ) : sProp 𝕄 :=
  bigSep Finset.univ fun i => P i (n - s * rk i)

/-- The member whose turn it is may be taken out and put back one stage further. -/
theorem fam_step {ι : Type} [Fintype ι] [DecidableEq ι] (P : ι → ℕ → sProp 𝕄) (s : ℕ) (rk : ι → ℕ) (hrk : Function.Injective rk)
    (hsat : ∀ i m, s ≤ m → P i m = P i s) {n : ℕ} (i : ι) (m : ℕ) (hm : m < s) (hn : n = s * rk i + m) :
    (fam P s rk n : sProp 𝕄) ⊢ iprop(P i m ∗ (P i (m + 1) -∗ fam P s rk (n + 1))) := by
  subst hn
  have hrest : (bigSep (Finset.univ.erase i) fun j => P j (s * rk i + m - s * rk j))
      = bigSep (Finset.univ.erase i) fun j => P j (s * rk i + m + 1 - s * rk j) := by
    refine bigSep_congr fun j hj => ?_
    have hne : rk j ≠ rk i := fun e => (Finset.mem_erase.mp hj).1 (hrk e)
    rcases Nat.lt_or_gt_of_ne hne with h | h
    · have := Nat.mul_le_mul_left s (Nat.succ_le_of_lt h)
      rw [Nat.mul_succ] at this
      rw [hsat j (s * rk i + m - s * rk j) (by omega), hsat j (s * rk i + m + 1 - s * rk j) (by omega)]
    · have := Nat.mul_le_mul_left s (Nat.succ_le_of_lt h)
      rw [Nat.mul_succ] at this
      rw [show s * rk i + m - s * rk j = s * rk i + m + 1 - s * rk j by omega]
  unfold fam
  rw [bigSep_univ_at _ i, bigSep_univ_at (fun j => P j (s * rk i + m + 1 - s * rk j)) i, hrest,
    show s * rk i + m - s * rk i = m by omega, show s * rk i + m + 1 - s * rk i = m + 1 by omega]
  iintro ⟨H, HR⟩
  isplitl [H]; · iexact H
  iintro H
  isplitl [H]; · iexact H
  iexact HR

/-- Any member may be looked at. -/
theorem fam_look {ι : Type} [Fintype ι] [DecidableEq ι] (P : ι → ℕ → sProp 𝕄) (s : ℕ) (rk : ι → ℕ) {n : ℕ} (i : ι) (m : ℕ)
    (hn : n - s * rk i = m) :
    (fam P s rk n : sProp 𝕄) ⊢ iprop(P i m ∗ (P i m -∗ fam P s rk n)) := by
  subst hn
  unfold fam
  rw [bigSep_univ_at _ i]
  iintro ⟨H, HR⟩
  isplitl [H]; · iexact H
  iintro H
  isplitl [H]; · iexact H
  iexact HR

/-! ## The stages -/

variable (X : Input F)

/-- A part: not yet stored, stored, sent. -/
def partAt (c : Dev nD) (i : Lane) : ℕ → sProp 𝕄
  | 0 => iprop(anyOf (tile4 sendM i) c ∗ rights 0 1 (tile4 recvM i) c i)
  | 1 => iprop(holds (tile4 sendM i) c fullShare (part X c i) ∗ rights 0 1 (tile4 recvM i) c i)
  | _ + 2 => cred (tallyAt (cell 0 c i) () N)

/-- A sum's share and the rights to send it, or the credit for its having been sent. -/
def sumReady (c : Dev nD) (h : Fin 4) (e : Fin 3) : sProp 𝕄 :=
  iprop(holds (tile3 sumM h) c (lend e) (total X c h) ∗ rights 2 3 (tile4 gathM (h, e)) c (h, e))
/-- The credit for a sum's having been sent. -/
def sumSent (c : Dev nD) (h : Fin 4) (e : Fin 3) : sProp 𝕄 := cred (tallyAt (cell 2 c (h, e)) () N)

/-- A sum: not yet stored, stored, sent two on, sent one on too, sent to all three. -/
def sumAt (c : Dev nD) (h : Fin 4) : ℕ → sProp 𝕄
  | 0 => iprop(anyOf (tile3 sumM h) c ∗ rights 2 3 (tile4 gathM (h, 1)) c (h, 1) ∗ rights 2 3 (tile4 gathM (h, 0)) c (h, 0)
      ∗ rights 2 3 (tile4 gathM (h, 2)) c (h, 2))
  | 1 => iprop(sumReady X c h 1 ∗ sumReady X c h 0 ∗ sumReady X c h 2)
  | 2 => iprop(sumSent c h 1 ∗ sumReady X c h 0 ∗ sumReady X c h 2)
  | 3 => iprop(sumSent c h 1 ∗ sumSent c h 0 ∗ sumReady X c h 2)
  | _ + 4 => iprop(sumSent c h 1 ∗ sumSent c h 0 ∗ sumSent c h 2)

/-- A part has two stages to go through. -/
theorem partAt_sat (c : Dev nD) (i : Lane) (m : ℕ) (h : 2 ≤ m) : partAt X c i m = partAt X c i 2 := by
  obtain ⟨k, rfl⟩ : ∃ k, m = k + 2 := ⟨m - 2, by omega⟩
  rfl
/-- A sum has four stages to go through. -/
theorem sumAt_sat (c : Dev nD) (h : Fin 4) (m : ℕ) (hm : 4 ≤ m) : sumAt X c h m = sumAt X c h 4 := by
  obtain ⟨k, rfl⟩ : ∃ k, m = k + 4 := ⟨m - 4, by omega⟩
  rfl
/-- A wait has one stage to go through. -/
theorem waited_sat (r : Fin 4) (c : Dev nD) (i : Lane) (m : ℕ) (hm : 1 ≤ m) : waited X r c i m = waited X r c i 1 := by
  obtain ⟨k, rfl⟩ : ∃ k, m = k + 1 := ⟨m - 1, by omega⟩
  rfl

/-! ## The result's blocks -/

/-- The result's buffer. -/
abbrev outM : Memref sig .tc .vmem S512x512 .bf16 := Memref.whole cc0_stg2_0
/-- The buffer with the indices written twice. -/
abbrev extM : Memref sig .tc .vmem S1024x1 .i32 := Memref.whole cc0_scratch0

/-- A block of the result lies within the result. -/
theorem inbO (j : Dev nD) (h : Fin 4) : ∀ a, (![128 * j.val, 128 * h.val] : Fin 2 → Nat) a + S128x128.size a ≤ S512x512.size a := by
  have h1 : j.val < 4 := j.isLt; have h2 := h.isLt
  intro a; fin_cases a
  · show 128 * j.val + 128 ≤ 512; omega
  · show 128 * h.val + 128 ≤ 512; omega

/-- Rows of device `j`, column piece `h`, of the result. -/
abbrev rectO (j : Dev nD) (h : Fin 4) : Rect S512x512 :=
  Rect.unit (s := S512x512) ![128 * j.val, 128 * h.val] S128x128.size (inbO j h)

/-- The places of a block of the result, by rows and columns. -/
theorem mem_rectO (j : Dev nD) (h : Fin 4) (x : S512x512.Idx) :
    x ∈ (outM.access (rectO j h)).set ↔ (x 0).val / 128 = j.val ∧ (x 1).val / 128 = h.val := by
  have h0 : (outM.access (rectO j h)).set = (rectO j h).set := View.set_slice_whole _ _
  rw [h0]
  refine Iff.trans Rect.mem_set_unit ?_
  constructor
  · intro H
    have a : 128 * j.val ≤ (x 0).val ∧ (x 0).val < 128 * j.val + 128 := H 0
    have b : 128 * h.val ≤ (x 1).val ∧ (x 1).val < 128 * h.val + 128 := H 1
    omega
  · rintro ⟨a, b⟩ d
    fin_cases d
    · show 128 * j.val ≤ (x 0).val ∧ (x 0).val < 128 * j.val + 128; omega
    · show 128 * h.val ≤ (x 1).val ∧ (x 1).val < 128 * h.val + 128; omega

/-- Which blocks of the result are written when `o` of its own and `d` of the others' are. -/
def done (c : Dev nD) (o d : ℕ) (j : Dev nD) (h : Fin 4) : Prop :=
  (j = c ∧ h.val < o) ∨ ∃ e, j = back c e ∧ rankR (h, e) < d

/-- The written blocks hold the sums. -/
def good (c : Dev nD) (o d : ℕ) (f : Vec F S512x512 .bf16) : Prop :=
  ∀ j h, done c o d j h → (outM.access (rectO j h)).read (Elt F) f = total X j h

/-- Writing one more block keeps the written blocks right. -/
theorem good_write (c : Dev nD) (o d o' d' : ℕ) (j : Dev nD) (h : Fin 4) (f : Vec F S512x512 .bf16)
    (hs : ∀ j' h', done c o' d' j' h' → done c o d j' h' ∨ (j' = j ∧ h' = h)) (hf : good X c o d f) :
    good X c o' d' ((outM.access (rectO j h)).write (Elt F) f (total X j h) Finset.univ) := by
  intro j' h' hd
  by_cases he : j' = j ∧ h' = h
  · obtain ⟨rfl, rfl⟩ := he
    exact View.read_write_univ _ _
  · have hdisj : Disjoint (outM.access (rectO j' h')).set ((outM.access (rectO j h)).setOn Finset.univ) := by
      rw [View.setOn_univ, Finset.disjoint_left]
      intro x hx hx'
      have a := (mem_rectO j' h' x).mp hx
      have b := (mem_rectO j h x).mp hx'
      exact he ⟨Fin.ext (a.1.symm.trans b.1), Fin.ext (a.2.symm.trans b.2)⟩
    rw [← hf j' h' ((hs j' h' hd).resolve_right he)]
    exact View.read_slice_write_slice_of_disjoint (v := outM.view) (rectO j' h') (rectO j h) f (total X j h) Finset.univ hdisj

/-- One more own block: the blocks written are those before and that one. -/
theorem done_own (c : Dev nD) (o d : ℕ) (h : Fin 4) (ho : h.val = o) :
    ∀ j' h', done c (o + 1) d j' h' → done c o d j' h' ∨ (j' = c ∧ h' = h) := by
  rintro j' h' (⟨rfl, hl⟩ | H)
  · by_cases e : h'.val = o
    · exact .inr ⟨rfl, Fin.ext (e.trans ho.symm)⟩
    · exact .inl (.inl ⟨rfl, by omega⟩)
  · exact .inl (.inr H)

/-- One more block of another device: the blocks written are those before and that one. -/
theorem done_other (c : Dev nD) (o d : ℕ) (i : Lane) (hi : rankR i = d) :
    ∀ j' h', done c o (d + 1) j' h' → done c o d j' h' ∨ (j' = back c i.2 ∧ h' = i.1) := by
  rintro j' h' (H | ⟨e, rfl, hl⟩)
  · exact .inl (.inl H)
  · by_cases he : rankR (h', e) = d
    · obtain rfl : (h', e) = i := rankR_inj (he.trans hi.symm)
      exact .inr ⟨rfl, rfl⟩
    · exact .inl (.inr ⟨e, rfl, by omega⟩)

/-- The result's buffer with `o` own and `d` other blocks written. -/
def outAt (c : Dev nD) (o d : ℕ) : sProp 𝕄 :=
  iprop(∃ f : Buf (Elt F) (outM.view.loc (c : Thread nD τ)), ⌜good X c o d f⌝ ∗ (outM.view.loc (c : Thread nD τ) ↦[Finset.univ]{fullShare} f))

/-- The indices written twice over. -/
def extAt (c : Dev nD) : sProp 𝕄 := iprop(extM.view.loc (c : Thread nD τ) ↦[Finset.univ]{fullShare} (ext (X.ids c) : Buf (Elt F) (extM.view.loc (c : Thread nD τ))))

/-! ## Where device `c` stands -/

/-- After `n` steps of sending parts, `k` of sending sums, `a` parts and `b` sums received, `o` own and `d` other
    blocks of the result written; `Z` is set aside. -/
def St (κ : GSem nD τ sig → ℕ) (Z : sProp 𝕄) (c : Dev nD) (n k a b o d : ℕ) : sProp 𝕄 :=
  iprop(pers X κ ∗ fam (partAt X c) 2 rankS n ∗ fam (sumAt X c) 4 Fin.val k ∗ fam (waited X 1 c) 1 rankR a ∗ fam (waited X 3 c) 1 rankR b
    ∗ owing c (owed c n k) ∗ outAt X c o d ∗ extAt X c ∗ Z)

variable {κ : GSem nD τ sig → ℕ} {c : Dev nD} {n k a b o d : ℕ}
variable {Z : sProp (MT nD τ sig Unit (Elt F) ℕ UU ℕ)}
variable {Q : PUnit → sProp (MT nD τ sig Unit (Elt F) ℕ UU ℕ)}

/-- The parts and the debt, apart from the rest. -/
theorem focusS (n' k : ℕ) : (St X κ Z c n k a b o d : sProp 𝕄) ⊢ iprop((pers X κ ∗ fam (partAt X c) 2 rankS n ∗ owing c (owed c n k))
    ∗ ((fam (partAt X c) 2 rankS n' ∗ owing c (owed c n' k)) -∗ St X κ Z c n' k a b o d)) := by
  unfold St
  iintro ⟨#HP, HS, HG, HA, HB, HO, HU, HX, HZ⟩
  isplitl [HS HO]
  · isplitr; · iexact HP
    isplitl [HS]; · iexact HS
    iexact HO
  iintro ⟨HS, HO⟩
  isplitr; · iexact HP
  isplitl [HS]; · iexact HS
  isplitl [HG]; · iexact HG
  isplitl [HA]; · iexact HA
  isplitl [HB]; · iexact HB
  isplitl [HO]; · iexact HO
  isplitl [HU]; · iexact HU
  isplitl [HX]; · iexact HX
  iexact HZ

/-- The sums and the debt. -/
theorem focusG (n k' : ℕ) : (St X κ Z c n k a b o d : sProp 𝕄) ⊢ iprop((pers X κ ∗ fam (sumAt X c) 4 Fin.val k ∗ owing c (owed c n k))
    ∗ ((fam (sumAt X c) 4 Fin.val k' ∗ owing c (owed c n k')) -∗ St X κ Z c n k' a b o d)) := by
  unfold St
  iintro ⟨#HP, HS, HG, HA, HB, HO, HU, HX, HZ⟩
  isplitl [HG HO]
  · isplitr; · iexact HP
    isplitl [HG]; · iexact HG
    iexact HO
  iintro ⟨HG, HO⟩
  isplitr; · iexact HP
  isplitl [HS]; · iexact HS
  isplitl [HG]; · iexact HG
  isplitl [HA]; · iexact HA
  isplitl [HB]; · iexact HB
  isplitl [HO]; · iexact HO
  isplitl [HU]; · iexact HU
  isplitl [HX]; · iexact HX
  iexact HZ

/-- The parts to receive and the debt. -/
theorem focusA (a' : ℕ) : (St X κ Z c n k a b o d : sProp 𝕄) ⊢ iprop((pers X κ ∗ fam (waited X 1 c) 1 rankR a ∗ owing c (owed c n k))
    ∗ ((fam (waited X 1 c) 1 rankR a' ∗ owing c (owed c n k)) -∗ St X κ Z c n k a' b o d)) := by
  unfold St
  iintro ⟨#HP, HS, HG, HA, HB, HO, HU, HX, HZ⟩
  isplitl [HA HO]
  · isplitr; · iexact HP
    isplitl [HA]; · iexact HA
    iexact HO
  iintro ⟨HA, HO⟩
  isplitr; · iexact HP
  isplitl [HS]; · iexact HS
  isplitl [HG]; · iexact HG
  isplitl [HA]; · iexact HA
  isplitl [HB]; · iexact HB
  isplitl [HO]; · iexact HO
  isplitl [HU]; · iexact HU
  isplitl [HX]; · iexact HX
  iexact HZ

/-- The sums to receive and the debt. -/
theorem focusB (b' : ℕ) : (St X κ Z c n k a b o d : sProp 𝕄) ⊢ iprop((pers X κ ∗ fam (waited X 3 c) 1 rankR b ∗ owing c (owed c n k))
    ∗ ((fam (waited X 3 c) 1 rankR b' ∗ owing c (owed c n k)) -∗ St X κ Z c n k a b' o d)) := by
  unfold St
  iintro ⟨#HP, HS, HG, HA, HB, HO, HU, HX, HZ⟩
  isplitl [HB HO]
  · isplitr; · iexact HP
    isplitl [HB]; · iexact HB
    iexact HO
  iintro ⟨HB, HO⟩
  isplitr; · iexact HP
  isplitl [HS]; · iexact HS
  isplitl [HG]; · iexact HG
  isplitl [HA]; · iexact HA
  isplitl [HB]; · iexact HB
  isplitl [HO]; · iexact HO
  isplitl [HU]; · iexact HU
  isplitl [HX]; · iexact HX
  iexact HZ

/-- The result, and the indices. -/
theorem focusU (o' d' : ℕ) : (St X κ Z c n k a b o d : sProp 𝕄) ⊢ iprop((outAt X c o d ∗ extAt X c)
    ∗ ((outAt X c o' d' ∗ extAt X c) -∗ St X κ Z c n k a b o' d')) := by
  unfold St
  iintro ⟨#HP, HS, HG, HA, HB, HO, HU, HX, HZ⟩
  isplitl [HU HX]
  · isplitl [HU]; · iexact HU
    iexact HX
  iintro ⟨HU, HX⟩
  isplitr; · iexact HP
  isplitl [HS]; · iexact HS
  isplitl [HG]; · iexact HG
  isplitl [HA]; · iexact HA
  isplitl [HB]; · iexact HB
  isplitl [HO]; · iexact HO
  isplitl [HU]; · iexact HU
  isplitl [HX]; · iexact HX
  iexact HZ

end Cert.KernelIdeal.Run
-- ==== Proof.Steps.lean ====
/- The kernel's operations as steps of where a device stands. -/
module

public import proofs.«01_k».proof.Proof.State

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)
variable {κ : GSem nD τ sig → ℕ} {c : Dev nD} {n k a b o d : ℕ}
variable {Z : sProp (MT nD τ sig Unit (Elt F) ℕ UU ℕ)}
variable {Q : PUnit → sProp (MT nD τ sig Unit (Elt F) ℕ UU ℕ)}
variable {kk : PUnit → Prog (TpuEff nD τ sig (Elt F) Λ₀ .tc) PUnit}

/-- A step from a local rule, a place for it in the state, and the rest of the run. -/
theorem step_of {S S' P P' W W' : sProp 𝕄} (hl : P ⊢ iprop((P' -∗ W') -∗ W)) (hs : S ⊢ iprop(P ∗ (P' -∗ S'))) (hk : S' ⊢ W') : S ⊢ W := by
  iintro H
  ihave H := hs $$ H
  icases H with ⟨HP, HS⟩
  iapply hl $$ [HP]
  · iexact HP
  iintro HP
  iapply hk
  iapply HS
  iexact HP

/-! ## Parts -/

/-- Before a part is stored the block is loaded, for nothing. -/
theorem part_dead (i : Lane) (hn : n = 2 * rankS i) {hl : sendM.view.LoadsAt (rect4 i).toLoadRect}
    {kk : Vec F S1x1x128x128 .bf16 → Prog (TpuEff nD τ sig (Elt F) Λ₀ .tc) PUnit}
    (hk : ∀ v, (St X κ Z c n k a b o d : sProp 𝕄) ⊢ Runs c (kk v) Q) :
    (St X κ Z c n k a b o d : sProp 𝕄) ⊢ Runs c (.op (.load sendM (rect4 i).toLoadRect hl) kk) Q := by
  refine step_of (S' := St X κ Z c n k a b o d) (W' := iprop(∀ v, Runs c (kk v) Q)) (load4_any sendM i) ?_ (by
    iintro H %v; iapply (hk v); iexact H)
  iintro H
  ihave H := (focusS X n k) $$ H
  icases H with ⟨⟨#HP, HS, HO⟩, Hb⟩
  ihave HS := (fam_look (partAt X c) 2 rankS i 0 (by omega)) $$ HS
  icases HS with ⟨H, HS⟩
  unfold partAt
  icases H with ⟨Ht, HR⟩
  isplitl [Ht]; · iexact Ht
  iintro Ht
  iapply Hb
  isplitr [HO]
  · iapply HS
    isplitl [Ht]; · iexact Ht
    iexact HR
  iexact HO

/-- Storing a part pays nothing. -/
theorem owed_store (c : Dev nD) (k : ℕ) (i : Lane) (hn : n = 2 * rankS i) : owed c n k = owed c (n + 1) k := by
  unfold owed
  rw [debt_same (far 1 c) dueS n (fun j => by subst hn; revert i j; decide)]

/-- Sending a part pays that part's debt. -/
theorem owed_send (c : Dev nD) (k : ℕ) (i : Lane) (hn : n = 2 * rankS i + 1) :
    owed c n k = owed c (n + 1) k + tallyAt (far 1 c i) () N := by
  unfold owed
  rw [debt_pay (far 1 c) dueS dueS_inj n i (by unfold dueS; omega)]
  rw [add_right_comm]

/-- Storing a sum pays nothing. -/
theorem owed_store' (c : Dev nD) (n : ℕ) (h : Fin 4) (hk : k = 4 * h.val) : owed c n k = owed c n (k + 1) := by
  unfold owed
  rw [debt_same (far 3 c) dueG k (fun j => by subst hk; revert h j; decide)]

/-- Sending a sum pays that sum's debt on one device. -/
theorem owed_send' (c : Dev nD) (n : ℕ) (i : Lane) (hk : dueG i = k + 1) :
    owed c n k = owed c n (k + 1) + tallyAt (far 3 c i) () N := by
  unfold owed
  rw [debt_pay (far 3 c) dueG dueG_inj k i hk]
  rw [add_assoc]

/-- The part of lane `i` is stored. -/
theorem part_store (i : Lane) (hn : n = 2 * rankS i) {hx hm} {w : Vec F S1x1x128x128 .bf16}
    (hw : w = shapeCast S1x1x128x128 (part X c i) shapeCasts_S128x128_S1x1x128x128)
    (hk : (St X κ Z c (n + 1) k a b o d : sProp 𝕄) ⊢ Runs c (kk ⟨⟩) Q) :
    (St X κ Z c n k a b o d : sProp 𝕄) ⊢ Runs c (.op (.store sendM (rect4 i) w Finset.univ hx hm) kk) Q := by
  refine step_of (S' := St X κ Z c (n + 1) k a b o d) (store4 sendM i (part X c i) hw) ?_ hk
  iintro H
  ihave H := (focusS X (n + 1) k) $$ H
  icases H with ⟨⟨#HP, HS, HO⟩, Hb⟩
  ihave HS := (fam_step (partAt X c) 2 rankS rankS_inj (partAt_sat X c) i 0 (by omega) (by omega)) $$ HS
  icases HS with ⟨H, HS⟩
  unfold partAt
  icases H with ⟨Ht, HR⟩
  isplitl [Ht]; · iexact Ht
  iintro Ht
  iapply Hb
  isplitr [HO]
  · iapply HS
    isplitl [Ht]; · iexact Ht
    iexact HR
  rw [← owed_store c k i hn]
  iexact HO

/-- The part of lane `i` is sent. -/
theorem part_send (i : Lane) (hn : n = 2 * rankS i + 1) {dv : Dev nD} (hdv : dv = peer c i.2) {sS sR : DmaSem sig}
    (hS : sS = dsem 0 i) (hR : sR = dsem 1 i) {hsc h1 h2 h3}
    (hk : (St X κ Z c (n + 1) k a b o d : sProp 𝕄) ⊢ Runs c (kk ⟨⟩) Q) :
    (St X κ Z c n k a b o d : sProp 𝕄)
      ⊢ Runs c (.op (.enqueueDma (tile4 sendM i) (.remote (Dev.tc dv) (tile4 recvM i) (.dma sS) hsc) (.dma sR) h1 h2 h3) kk) Q := by
  refine step_of (S' := St X κ Z c (n + 1) k a b o d)
    (send_lane X κ 0 1 i (tile4 sendM i) (tile4 recvM i) fullShare (part X c i) (N_tile _) (holds_any _ _ _) (by
      show _ ⊢ holds (tile4 recvM i) (peer c i.2) fullShare (part X (back (peer c i.2) i.2) i)
      rw [back_peer]) hdv hS hR (owed c n k) (owed c (n + 1) k) (owed_send c k i hn)) ?_ hk
  iintro H
  ihave H := (focusS X (n + 1) k) $$ H
  icases H with ⟨⟨#HP, HS, HO⟩, Hb⟩
  ihave HS := (fam_step (partAt X c) 2 rankS rankS_inj (partAt_sat X c) i 1 (by omega) (by omega)) $$ HS
  icases HS with ⟨H, HS⟩
  unfold partAt
  icases H with ⟨Ht, HR⟩
  isplitl [Ht HR HO]
  · isplitr; · iexact HP
    isplitl [Ht]; · iexact Ht
    isplitl [HR]; · iexact HR
    iexact HO
  iintro ⟨Hc, HO⟩
  iapply Hb
  isplitr [HO]
  · iapply HS
    iexact Hc
  iexact HO

/-! ## Receiving parts -/

/-- The part of lane `i` is waited for. -/
theorem part_wait (i : Lane) (hn : n = 24) (ha : a = rankR i) {T T' : Memref sig .tc .vmem S128x128 .bf16}
    {s : DmaSem sig} (hs : s = dsem 1 i) {h1 h2}
    (hk : (St X κ Z c n k (a + 1) b o d : sProp 𝕄) ⊢ Runs c (kk ⟨⟩) Q) :
    (St X κ Z c n k a b o d : sProp 𝕄) ⊢ Runs c (.op (.waitDma2 s T T' h1 h2) kk) Q := by
  subst hn
  refine step_of (S' := St X κ Z c 24 k (a + 1) b o d) (wait_lane X κ 1 i (N_tile T') hs (owed c 24 k) (may_part c i k)) ?_ hk
  iintro H
  ihave H := (focusA X (a + 1)) $$ H
  icases H with ⟨⟨#HP, HA, HO⟩, Hb⟩
  ihave HA := (fam_step (waited X 1 c) 1 rankR rankR_inj (waited_sat X 1 c) i 0 (by omega) (by omega)) $$ HA
  icases HA with ⟨H, HA⟩
  isplitl [H HO]
  · isplitr; · iexact HP
    isplitl [H]; · iexact H
    iexact HO
  iintro ⟨H, HO⟩
  iapply Hb
  isplitr [HO]
  · iapply HA
    iexact H
  iexact HO

/-- The part of lane `i`, received, is loaded. -/
theorem part_load (i : Lane) (ha : a = rankR i + 1) {hl : recvM.view.LoadsAt (rect4 i).toLoadRect}
    {kk : Vec F S1x1x128x128 .bf16 → Prog (TpuEff nD τ sig (Elt F) Λ₀ .tc) PUnit}
    (hk : (St X κ Z c n k a b o d : sProp 𝕄)
      ⊢ Runs c (kk (shapeCast S1x1x128x128 (part X (back c i.2) i) shapeCasts_S128x128_S1x1x128x128)) Q) :
    (St X κ Z c n k a b o d : sProp 𝕄) ⊢ Runs c (.op (.load recvM (rect4 i).toLoadRect hl) kk) Q := by
  refine step_of (S' := St X κ Z c n k a b o d) (load4_holds recvM i fullShare (part X (back c i.2) i)) ?_ hk
  iintro H
  ihave H := (focusA X a) $$ H
  icases H with ⟨⟨#HP, HA, HO⟩, Hb⟩
  ihave HA := (fam_look (waited X 1 c) 1 rankR i 1 (by omega)) $$ HA
  icases HA with ⟨H, HA⟩
  unfold waited
  icases H with ⟨Ht, HR⟩
  ihave Ht := (show (brings X c 1 i : sProp 𝕄) ⊢ holds (tile4 recvM i) c fullShare (part X (back c i.2) i) from Entails.of_eq rfl) $$ Ht
  isplitl [Ht]; · iexact Ht
  iintro Ht
  iapply Hb
  isplitr [HO]
  · iapply HA
    isplitl [Ht]
    · iapply (show (holds (tile4 recvM i) c fullShare (part X (back c i.2) i) : sProp 𝕄) ⊢ brings X c 1 i from Entails.of_eq rfl)
      iexact Ht
    iexact HR
  iexact HO

/-! ## Sums -/

/-- Before a sum is stored its block is loaded, for nothing. -/
theorem sum_dead (h : Fin 4) (hk' : k = 4 * h.val) {hl : sumM.view.LoadsAt (rect3 h).toLoadRect}
    {kk : Vec F S1x128x128 .bf16 → Prog (TpuEff nD τ sig (Elt F) Λ₀ .tc) PUnit}
    (hk : ∀ v, (St X κ Z c n k a b o d : sProp 𝕄) ⊢ Runs c (kk v) Q) :
    (St X κ Z c n k a b o d : sProp 𝕄) ⊢ Runs c (.op (.load sumM (rect3 h).toLoadRect hl) kk) Q := by
  refine step_of (S' := St X κ Z c n k a b o d) (W' := iprop(∀ v, Runs c (kk v) Q)) (load3_any sumM h) ?_ (by
    iintro H %v; iapply (hk v); iexact H)
  iintro H
  ihave H := (focusG X n k) $$ H
  icases H with ⟨⟨#HP, HS, HO⟩, Hb⟩
  ihave HS := (fam_look (sumAt X c) 4 Fin.val h 0 (by omega)) $$ HS
  icases HS with ⟨H, HS⟩
  unfold sumAt
  icases H with ⟨Ht, HR⟩
  isplitl [Ht]; · iexact Ht
  iintro Ht
  iapply Hb
  isplitr [HO]
  · iapply HS
    isplitl [Ht]; · iexact Ht
    iexact HR
  iexact HO

/-- The sum is stored. -/
theorem sum_store (h : Fin 4) (hk' : k = 4 * h.val) {hx hm} {w : Vec F S1x128x128 .bf16}
    (hw : w = shapeCast S1x128x128 (total X c h) shapeCasts_S128x128_S1x128x128)
    (hk : (St X κ Z c n (k + 1) a b o d : sProp 𝕄) ⊢ Runs c (kk ⟨⟩) Q) :
    (St X κ Z c n k a b o d : sProp 𝕄) ⊢ Runs c (.op (.store sumM (rect3 h) w Finset.univ hx hm) kk) Q := by
  refine step_of (S' := St X κ Z c n (k + 1) a b o d) (store3 sumM h (total X c h) hw) ?_ hk
  iintro H
  ihave H := (focusG X n (k + 1)) $$ H
  icases H with ⟨⟨#HP, HS, HO⟩, Hb⟩
  ihave HS := (fam_step (sumAt X c) 4 Fin.val Fin.val_injective (sumAt_sat X c) h 0 (by omega) (by omega)) $$ HS
  icases HS with ⟨H, HS⟩
  unfold sumAt
  icases H with ⟨Ht, H1, H0, H2⟩
  isplitl [Ht]; · iexact Ht
  iintro Ht
  ihave Ht := (holds_lend (tile3 sumM h) c (total X c h)) $$ Ht
  icases Ht with ⟨T1, T0, T2⟩
  iapply Hb
  isplitr [HO]
  · iapply HS
    unfold sumReady
    isplitl [H1 T1]
    · isplitl [T1]; · iexact T1
      iexact H1
    isplitl [H0 T0]
    · isplitl [T0]; · iexact T0
      iexact H0
    isplitl [T2]; · iexact T2
    iexact H2
  rw [← owed_store' c n h hk']
  iexact HO

/-- At its turn a copy of the sum may be taken out to be sent. -/
theorem sum_turn (i : Lane) (hk' : dueG i = k + 1) :
    (fam (sumAt X c) 4 Fin.val k : sProp 𝕄)
      ⊢ iprop(sumReady X c i.1 i.2 ∗ (sumSent c i.1 i.2 -∗ fam (sumAt X c) 4 Fin.val (k + 1))) := by
  obtain ⟨h, e⟩ := i
  fin_cases e
  · have hd : 4 * h.val + 3 = k + 1 := hk'
    iintro HS
    ihave HS := (fam_step (sumAt X c) 4 Fin.val Fin.val_injective (sumAt_sat X c) h 2 (by omega) (by omega)) $$ HS
    icases HS with ⟨H, HS⟩
    unfold sumAt
    icases H with ⟨H1, H0, H2⟩
    isplitl [H0]; · iexact H0
    iintro H0
    iapply HS
    isplitl [H1]; · iexact H1
    isplitl [H0]; · iexact H0
    iexact H2
  · have hd : 4 * h.val + 2 = k + 1 := hk'
    iintro HS
    ihave HS := (fam_step (sumAt X c) 4 Fin.val Fin.val_injective (sumAt_sat X c) h 1 (by omega) (by omega)) $$ HS
    icases HS with ⟨H, HS⟩
    unfold sumAt
    icases H with ⟨H1, H0, H2⟩
    isplitl [H1]; · iexact H1
    iintro H1
    iapply HS
    isplitl [H1]; · iexact H1
    isplitl [H0]; · iexact H0
    iexact H2
  · have hd : 4 * h.val + 4 = k + 1 := hk'
    iintro HS
    ihave HS := (fam_step (sumAt X c) 4 Fin.val Fin.val_injective (sumAt_sat X c) h 3 (by omega) (by omega)) $$ HS
    icases HS with ⟨H, HS⟩
    unfold sumAt
    icases H with ⟨H1, H0, H2⟩
    isplitl [H2]; · iexact H2
    iintro H2
    iapply HS
    isplitl [H1]; · iexact H1
    isplitl [H0]; · iexact H0
    iexact H2

/-- A copy of the sum is sent. -/
theorem sum_send (i : Lane) (hk' : dueG i = k + 1) {dv : Dev nD} (hdv : dv = peer c i.2) {sS sR : DmaSem sig}
    (hS : sS = dsem 2 i) (hR : sR = dsem 3 i) {hsc h1 h2 h3}
    (hk : (St X κ Z c n (k + 1) a b o d : sProp 𝕄) ⊢ Runs c (kk ⟨⟩) Q) :
    (St X κ Z c n k a b o d : sProp 𝕄)
      ⊢ Runs c (.op (.enqueueDma (tile3 sumM i.1) (.remote (Dev.tc dv) (tile4 gathM i) (.dma sS) hsc) (.dma sR) h1 h2 h3) kk) Q := by
  refine step_of (S' := St X κ Z c n (k + 1) a b o d)
    (send_lane X κ 2 3 i (tile3 sumM i.1) (tile4 gathM i) (lend i.2) (total X c i.1) (N_tile _) (Entails.of_eq rfl) (by
      show _ ⊢ holds (tile4 gathM i) (peer c i.2) fullShare (total X (back (peer c i.2) i.2) i.1)
      rw [back_peer]) hdv hS hR (owed c n k) (owed c n (k + 1)) (owed_send' c n i hk')) ?_ hk
  iintro H
  ihave H := (focusG X n (k + 1)) $$ H
  icases H with ⟨⟨#HP, HS, HO⟩, Hb⟩
  ihave HS := (sum_turn X i hk') $$ HS
  icases HS with ⟨H, HS⟩
  unfold sumReady
  icases H with ⟨Ht, HR⟩
  isplitl [Ht HR HO]
  · isplitr; · iexact HP
    isplitl [Ht]; · iexact Ht
    isplitl [HR]; · iexact HR
    iexact HO
  iintro ⟨Hc, HO⟩
  iapply Hb
  isplitr [HO]
  · iapply HS
    unfold sumSent
    iexact Hc
  iexact HO

/-! ## Receiving sums -/

/-- Any completion may be waited for when nothing is owed. -/
theorem may_any (s : DmaSem sig) (O : CellTallies nD τ sig Unit) (hO : O = 0) :
    (levAts L lv : sProp 𝕄) ⊢ MayWait (c : Thread nD τ) (.dma s) () O := by
  subst hO
  rw [MayWait_zero]
  iintro -
  iempintro

/-- The sum of lane `i` is waited for. -/
theorem sum_wait (i : Lane) (hn : n = 24) (hk' : k = 16) (hb : b = rankR i) {T T' : Memref sig .tc .vmem S128x128 .bf16}
    {s : DmaSem sig} (hs : s = dsem 3 i) {h1 h2}
    (hk : (St X κ Z c n k a (b + 1) o d : sProp 𝕄) ⊢ Runs c (kk ⟨⟩) Q) :
    (St X κ Z c n k a b o d : sProp 𝕄) ⊢ Runs c (.op (.waitDma2 s T T' h1 h2) kk) Q := by
  refine step_of (S' := St X κ Z c n k a (b + 1) o d) (wait_lane X κ 3 i (N_tile T') hs (owed c n k) (may_any _ _ (by
    rw [hn, hk']; exact owed_done c))) ?_ hk
  iintro H
  ihave H := (focusB X (b + 1)) $$ H
  icases H with ⟨⟨#HP, HA, HO⟩, Hb⟩
  ihave HA := (fam_step (waited X 3 c) 1 rankR rankR_inj (waited_sat X 3 c) i 0 (by omega) (by omega)) $$ HA
  icases HA with ⟨H, HA⟩
  isplitl [H HO]
  · isplitr; · iexact HP
    isplitl [H]; · iexact H
    iexact HO
  iintro ⟨H, HO⟩
  iapply Hb
  isplitr [HO]
  · iapply HA
    iexact H
  iexact HO

/-- The sum of lane `i`, received, is loaded. -/
theorem sum_load (i : Lane) (hb : b = rankR i + 1) {hl : gathM.view.LoadsAt (rect4 i).toLoadRect}
    {kk : Vec F S1x1x128x128 .bf16 → Prog (TpuEff nD τ sig (Elt F) Λ₀ .tc) PUnit}
    (hk : (St X κ Z c n k a b o d : sProp 𝕄)
      ⊢ Runs c (kk (shapeCast S1x1x128x128 (total X (back c i.2) i.1) shapeCasts_S128x128_S1x1x128x128)) Q) :
    (St X κ Z c n k a b o d : sProp 𝕄) ⊢ Runs c (.op (.load gathM (rect4 i).toLoadRect hl) kk) Q := by
  refine step_of (S' := St X κ Z c n k a b o d) (load4_holds gathM i fullShare (total X (back c i.2) i.1)) ?_ hk
  iintro H
  ihave H := (focusB X b) $$ H
  icases H with ⟨⟨#HP, HA, HO⟩, Hb⟩
  ihave HA := (fam_look (waited X 3 c) 1 rankR i 1 (by omega)) $$ HA
  icases HA with ⟨H, HA⟩
  unfold waited
  icases H with ⟨Ht, HR⟩
  ihave Ht := (show (brings X c 3 i : sProp 𝕄) ⊢ holds (tile4 gathM i) c fullShare (total X (back c i.2) i.1) from Entails.of_eq rfl) $$ Ht
  isplitl [Ht]; · iexact Ht
  iintro Ht
  iapply Hb
  isplitr [HO]
  · iapply HA
    isplitl [Ht]
    · iapply (show (holds (tile4 gathM i) c fullShare (total X (back c i.2) i.1) : sProp 𝕄) ⊢ brings X c 3 i from Entails.of_eq rfl)
      iexact Ht
    iexact HR
  iexact HO

/-! ## The result -/

/-- Before a block of the result is stored it is loaded, for nothing. -/
theorem out_dead (r : Rect S512x512) {hl : outM.view.LoadsAt r.toLoadRect}
    {kk : Vec F r.shape .bf16 → Prog (TpuEff nD τ sig (Elt F) Λ₀ .tc) PUnit}
    (hk : ∀ v, (St X κ Z c n k a b o d : sProp 𝕄) ⊢ Runs c (kk v) Q) :
    (St X κ Z c n k a b o d : sProp 𝕄) ⊢ Runs c (.op (.load outM r.toLoadRect hl) kk) Q := by
  iintro H
  ihave H := (focusU X o d) $$ H
  icases H with ⟨⟨HU, HX⟩, Hb⟩
  unfold outAt
  icases HU with ⟨%f, %hf, HU⟩
  iapply (wp_load_rect Variants.none (c : Thread nD τ) none Set.univ (m := outM) (r := r) (S := Finset.univ) (Finset.subset_univ _)) $$ [HU]
  · iexact HU
  iintro HU
  iapply (hk _)
  iapply Hb
  isplitr [HX]
  · iexists f
    isplitr; · ipureintro; exact hf
    iexact HU
  iexact HX

/-- A block of the result is stored. -/
theorem out_store (j : Dev nD) (h : Fin 4) (o' d' : ℕ) (hs : ∀ j' h', done c o' d' j' h' → done c o d j' h' ∨ (j' = j ∧ h' = h))
    {off : Fin 2 → ℕ} {inb} {hx hm} (hoff : off = ![128 * j.val, 128 * h.val])
    {w : Vec F S128x128 .bf16} (hw : w = total X j h)
    (hk : (St X κ Z c n k a b o' d' : sProp 𝕄) ⊢ Runs c (kk ⟨⟩) Q) :
    (St X κ Z c n k a b o d : sProp 𝕄)
      ⊢ Runs c (.op (.store outM (Rect.unit (s := S512x512) off S128x128.size inb) w Finset.univ hx hm) kk) Q := by
  subst hoff hw
  iintro H
  ihave H := (focusU X o' d') $$ H
  icases H with ⟨⟨HU, HX⟩, Hb⟩
  unfold outAt
  icases HU with ⟨%f, %hf, HU⟩
  iapply (wp_store Variants.none (c : Thread nD τ) none Set.univ (m := outM) (r := rectO j h) (S := Finset.univ) (Finset.subset_univ _)) $$ [HU]
  · iexact HU
  iintro HU
  iapply hk
  iapply Hb
  isplitr [HX]
  · iexists ((outM.access (rectO j h)).write (Elt F) f (total X j h) Finset.univ)
    isplitr; · ipureintro; exact good_write X c o d o' d' j h f hs hf
    iexact HU
  iexact HX

/-- The device's own block. -/
theorem out_own (h : Fin 4) (ho : h.val = o) {off : Fin 2 → ℕ} {inb} {hx hm} (hoff : off = ![128 * c.val, 128 * h.val])
    {w : Vec F S128x128 .bf16} (hw : w = total X c h)
    (hk : (St X κ Z c n k a b (o + 1) d : sProp 𝕄) ⊢ Runs c (kk ⟨⟩) Q) :
    (St X κ Z c n k a b o d : sProp 𝕄)
      ⊢ Runs c (.op (.store outM (Rect.unit (s := S512x512) off S128x128.size inb) w Finset.univ hx hm) kk) Q :=
  out_store X c h (o + 1) d (done_own c o d h ho) hoff hw hk

/-- Another device's block. -/
theorem out_other (i : Lane) (hi : rankR i = d) {off : Fin 2 → ℕ} {inb} {hx hm} (hoff : off = ![128 * (back c i.2).val, 128 * i.1.val])
    {w : Vec F S128x128 .bf16} (hw : w = total X (back c i.2) i.1)
    (hk : (St X κ Z c n k a b o (d + 1) : sProp 𝕄) ⊢ Runs c (kk ⟨⟩) Q) :
    (St X κ Z c n k a b o d : sProp 𝕄)
      ⊢ Runs c (.op (.store outM (Rect.unit (s := S512x512) off S128x128.size inb) w Finset.univ hx hm) kk) Q :=
  out_store X (back c i.2) i.1 o (d + 1) (done_other c o d i hi) hoff hw hk

/-! ## The indices -/

/-- The second pass's indices are loaded. -/
theorem ids_load {hl}
    {kk : Vec F S256x1 .i32 → Prog (TpuEff nD τ sig (Elt F) Λ₀ .tc) PUnit}
    (hk : (St X κ Z c n k a b o d : sProp 𝕄) ⊢ Runs c (kk (ids2 (X.ids c) c 1)) Q) :
    (St X κ Z c n k a b o d : sProp 𝕄)
      ⊢ Runs c (.op (.load extM (Rect.unit (s := S1024x1) (k0_off1 c 3#32) S256x1.size (k0_off1_inb c 1)).toLoadRect hl) kk) Q := by
  iintro H
  ihave H := (focusU X o d) $$ H
  icases H with ⟨⟨HU, HX⟩, Hb⟩
  unfold extAt
  iapply (wp_load_rect Variants.none (c : Thread nD τ) none Set.univ (m := extM) (r := Rect.unit (s := S1024x1) (k0_off1 c 3#32) S256x1.size (k0_off1_inb c 1)) (S := Finset.univ) (Finset.subset_univ _)) $$ [HX]
  · iexact HX
  iintro HX
  iapply hk
  iapply Hb
  isplitl [HU]; · iexact HU
  iexact HX

/-! ## Waiting for what has left -/

/-- Everything is received and stored: what is left is to wait until the parts (`u` waited for) and the sums (`v`) have left. -/
def Dep (κ : GSem nD τ sig → ℕ) (Z : sProp 𝕄) (c : Dev nD) (u v : ℕ) : sProp 𝕄 :=
  iprop(pers X κ ∗ fam (waited X 0 c) 1 rankW u ∗ fam (waited X 2 c) 1 rankW v ∗ owing c 0 ∗ Z)

variable {u v : ℕ}

/-- The departure of a part is waited for. -/
theorem left_part (i : Lane) (hu : u = rankW i) {T T' : Memref sig .tc .vmem S128x128 .bf16}
    {s : DmaSem sig} (hs : s = dsem 0 i) {h1 h2}
    (hk : (Dep X κ Z c (u + 1) v : sProp 𝕄) ⊢ Runs c (kk ⟨⟩) Q) :
    (Dep X κ Z c u v : sProp 𝕄) ⊢ Runs c (.op (.waitDma2 s T T' h1 h2) kk) Q := by
  refine step_of (S' := Dep X κ Z c (u + 1) v) (wait_lane X κ 0 i (N_tile T') hs 0 (may_any _ _ rfl)) ?_ hk
  unfold Dep
  iintro ⟨#HP, HA, HB, HO, HZ⟩
  ihave HA := (fam_step (waited X 0 c) 1 rankW rankW_inj (waited_sat X 0 c) i 0 (by omega) (by omega)) $$ HA
  icases HA with ⟨H, HA⟩
  isplitl [H HO]
  · isplitr; · iexact HP
    isplitl [H]; · iexact H
    iexact HO
  iintro ⟨H, HO⟩
  isplitr; · iexact HP
  isplitl [HA H]
  · iapply HA
    iexact H
  isplitl [HB]; · iexact HB
  isplitl [HO]; · iexact HO
  iexact HZ

/-- The departure of a sum is waited for. -/
theorem left_sum (i : Lane) (hv : v = rankW i) {T T' : Memref sig .tc .vmem S128x128 .bf16}
    {s : DmaSem sig} (hs : s = dsem 2 i) {h1 h2}
    (hk : (Dep X κ Z c u (v + 1) : sProp 𝕄) ⊢ Runs c (kk ⟨⟩) Q) :
    (Dep X κ Z c u v : sProp 𝕄) ⊢ Runs c (.op (.waitDma2 s T T' h1 h2) kk) Q := by
  refine step_of (S' := Dep X κ Z c u (v + 1)) (wait_lane X κ 2 i (N_tile T') hs 0 (may_any _ _ rfl)) ?_ hk
  unfold Dep
  iintro ⟨#HP, HA, HB, HO, HZ⟩
  ihave HB := (fam_step (waited X 2 c) 1 rankW rankW_inj (waited_sat X 2 c) i 0 (by omega) (by omega)) $$ HB
  icases HB with ⟨H, HB⟩
  isplitl [H HO]
  · isplitr; · iexact HP
    isplitl [H]; · iexact H
    iexact HO
  iintro ⟨H, HO⟩
  isplitr; · iexact HP
  isplitl [HA]; · iexact HA
  isplitl [HB H]
  · iapply HB
    iexact H
  isplitl [HO]; · iexact HO
  iexact HZ

/-- Before any of its sends is waited for, device `c` stands at the start of each departure's semaphore. -/
def atLeft (c : Dev nD) (r : Fin 4) : sProp 𝕄 := bigSep Finset.univ fun i : Lane => atPos ER (cell r c i) 0 ∅ 0

/-- A wait not yet made: the credit for it, and the semaphore at its beginning. -/
theorem waited_zero (r : Fin 4) (c : Dev nD) (i : Lane) :
    waited X r c i 0 = iprop(cred (tallyAt (cell r c i) () N) ∗ atPos ER (cell r c i) 0 ∅ 0) := rfl

/-- A family over the three distances, in the order the copies of a sum are sent. -/
theorem bigSep_three (Φ : Fin 3 → sProp 𝕄) : bigSep Finset.univ Φ = iprop(Φ 1 ∗ Φ 0 ∗ Φ 2) := by
  rw [show (Finset.univ : Finset (Fin 3)) = {1, 0, 2} by decide, bigSep_insert (by decide), bigSep_insert (by decide), bigSep_singleton]
  rfl

/-- From the last result stored to the waits for the departures. -/
theorem St_Dep : (St X κ iprop(atLeft c 0 ∗ atLeft c 2 ∗ Z) c 24 16 12 12 4 12 : sProp 𝕄)
    ⊢ Dep X κ iprop(fam (waited X 1 c) 1 rankR 12 ∗ fam (waited X 3 c) 1 rankR 12 ∗ outAt X c 4 12 ∗ extAt X c ∗ Z) c 0 0 := by
  have hs : (fam (partAt X c) 2 rankS 24 : sProp 𝕄) = bigSep Finset.univ fun i => cred (tallyAt (cell 0 c i) () N) := by
    refine bigSep_congr fun i _ => ?_
    rw [partAt_sat X c i _ (by revert i; decide)]; rfl
  have hg : (fam (sumAt X c) 4 Fin.val 16 : sProp 𝕄) ⊢ bigSep Finset.univ fun i : Lane => cred (tallyAt (cell 2 c i) () N) := by
    have h1 : (fam (sumAt X c) 4 Fin.val 16 : sProp 𝕄)
        = bigSep Finset.univ fun h : Fin 4 => iprop(sumSent c h 1 ∗ sumSent c h 0 ∗ sumSent c h 2) := by
      refine bigSep_congr fun h _ => ?_
      rw [sumAt_sat X c h _ (by revert h; decide)]; rfl
    rw [h1, bigSep_univ_prod]
    refine Entails.of_eq (bigSep_congr fun h _ => ?_)
    rw [bigSep_three]
    rfl
  have hw : ∀ r : Fin 4, iprop((bigSep Finset.univ fun i : Lane => cred (tallyAt (cell r c i) () N)) ∗ atLeft c r)
      ⊢ (fam (waited X r c) 1 rankW 0 : sProp 𝕄) := by
    intro r
    unfold atLeft fam
    rw [← bigSep_sep']
    refine Entails.of_eq (bigSep_congr fun i _ => ?_)
    rw [Nat.zero_sub, waited_zero]
  unfold St Dep
  rw [hs, owed_done]
  iintro ⟨#HP, HS, HG, HA, HB, HO, HU, HX, H0, H2, HZ⟩
  isplitr; · iexact HP
  isplitl [HS H0]
  · iapply (hw 0); isplitl [HS]; · iexact HS
    iexact H0
  isplitl [HG H2]
  · iapply (hw 2); isplitl [HG]
    · iapply hg; iexact HG
    iexact H2
  isplitl [HO]; · iexact HO
  isplitl [HA]; · iexact HA
  isplitl [HB]; · iexact HB
  isplitl [HU]; · iexact HU
  isplitl [HX]; · iexact HX
  iexact HZ

end Cert.KernelIdeal.Run
-- ==== Proof.Buffers.lean ====
/- The buffers the kernel's body is called with, and small facts of its text. -/
module

public import proofs.«01_k».proof.Proof.Steps

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A piece of the kernel's text on the buffers it is called with. -/
abbrev onBuffers {R : Type 1} (f : (arg0 : Memref sig .tc .vmem S512x1 .i32) → arg0.IsWhole → (arg1 : Memref sig .tc .vmem S4096x512 .bf16) → arg1.IsWhole
    → (arg2 : Memref sig .tc .vmem S512x512 .bf16) → arg2.IsWhole → (arg3 : Memref sig .tc .vmem S1024x1 .i32) → arg3.IsWhole
    → (arg4 : Memref sig .tc .vmem S4x3x128x128 .bf16) → arg4.IsWhole → (arg5 : Memref sig .tc .vmem S4x3x128x128 .bf16) → arg5.IsWhole
    → (arg6 : Memref sig .tc .vmem S4x128x128 .bf16) → arg6.IsWhole → (arg7 : Memref sig .tc .vmem S4x3x128x128 .bf16) → arg7.IsWhole
    → DmaSems sig S4x3 → DmaSems sig S4x3 → DmaSems sig S4x3 → DmaSems sig S4x3 → R) : R :=
  f (Memref.whole cc0_stg0_0) (Memref.isWhole_whole _) (Memref.whole cc0_stg1_0) (Memref.isWhole_whole _) outM (Memref.isWhole_whole _)
    extM (Memref.isWhole_whole _) sendM (Memref.isWhole_whole _) recvM (Memref.isWhole_whole _) sumM (Memref.isWhole_whole _)
    gathM (Memref.isWhole_whole _) cc0_scratch5 cc0_scratch6 cc0_scratch7 cc0_scratch8

/-- A device computed from one's own number, as a place on the ring. -/
theorem dev_of {f : Dev nD → ℕ} {hf : ∀ c, f c < nD} {e : Fin 3} (h : ∀ c, f c = (peer c e).val) (c : Dev nD) :
    (⟨f c, hf c⟩ : Dev nD) = peer c e := Fin.ext (h c)

/-- A received piece, reshaped there and back. -/
theorem piece_back (v : FVec F S128x128 .bf16) :
    shapeCast S128x128 (shapeCast S1x1x128x128 v shapeCasts_S128x128_S1x1x128x128) shapeCasts_S1x1x128x128_S128x128 = v :=
  shapeCast_shapeCast v _ _

variable (X : Input F)

/-- The second pass's rows that device `c` keeps. -/
def ownRows (c : Dev nD) : FVec F S128x512 .bf16 :=
  extractStridedSlice S128x512 ![128, 0] (passB (X.ids c) (X.tab c) c) slices_S256x512_o128_0_S128x512

/-- Device `c`'s own rows, columns `h`, with what the devices one and three places before it sent added. -/
def subtotal (c : Dev nD) (h : Fin 4) : FVec F S128x128 .bf16 :=
  addf (addf (cols h (ownRows X c)) (part X (back c 0) (h, 0))) (part X (back c 2) (h, 2))

end Cert.KernelIdeal.Run
-- ==== Proof.Start.lean ====
/- The beginning of the kernel's body: the indices are written out twice, the devices signal each other that their
   landing pieces are free, and each waits until the three others have. -/
module

public import proofs.«01_k».proof.Proof.Buffers

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)
variable {κ : GSem nD τ sig → ℕ} {c : Dev nD}
variable {Z : sProp (MT nD τ sig Unit (Elt F) ℕ UU ℕ)}
variable {Q : PUnit → sProp (MT nD τ sig Unit (Elt F) ℕ UU ℕ)}

/-- The indices' buffer. -/
abbrev idsM : Memref sig .tc .vmem S512x1 .i32 := Memref.whole cc0_stg0_0
/-- The buffer of the device's part of the table. -/
abbrev tabM : Memref sig .tc .vmem S4096x512 .bf16 := Memref.whole cc0_stg1_0

/-- Device `c`'s indices, in the buffer they are brought to. -/
def idsAt (c : Dev nD) : sProp 𝕄 := iprop(idsM.view.loc (c : Thread nD τ) ↦[Finset.univ]{fullShare} (X.ids c : Buf (Elt F) (idsM.view.loc (c : Thread nD τ))))
/-- Device `c`'s part of the table, in the buffer it is brought to. -/
def tabAt (c : Dev nD) : sProp 𝕄 := iprop(tabM.view.loc (c : Thread nD τ) ↦[Finset.univ]{fullShare} (X.tab c : Buf (Elt F) (tabM.view.loc (c : Thread nD τ))))
/-- The buffer for the indices written twice, whatever it holds. -/
def extAny (c : Dev nD) : sProp 𝕄 := iprop(∃ f : Buf (Elt F) (extM.view.loc (c : Thread nD τ)), extM.view.loc (c : Thread nD τ) ↦[Finset.univ]{fullShare} f)

/-! ## Values -/

/-- The whole index buffer, read as one block. -/
theorem read_ids (f : Vec F S512x1 .i32) :
    (idsM.access (Rect.unit (s := S512x1) ![0, 0] S512x1.size inb_S512x1_S512x1_0_0)).read (Elt F) f = f := by
  funext x
  refine congrArg f (funext fun a => Fin.ext ?_)
  show ((![0, 0] : Fin 2 → ℕ) a) + 1 * (x a).val = (x a).val
  fin_cases a
  · show 0 + 1 * (x 0).val = (x 0).val; omega
  · show 0 + 1 * (x 1).val = (x 1).val; omega

/-- The whole part of the table, read as one block. -/
theorem read_tab (f : Vec F S4096x512 .bf16) :
    (tabM.access (Rect.unit (s := S4096x512) ![0, 0] S4096x512.size inb_S4096x512_S4096x512_0_0)).read (Elt F) f = f := by
  funext x
  refine congrArg f (funext fun a => Fin.ext ?_)
  show ((![0, 0] : Fin 2 → ℕ) a) + 1 * (x a).val = (x a).val
  fin_cases a
  · show 0 + 1 * (x 0).val = (x 0).val; omega
  · show 0 + 1 * (x 1).val = (x 1).val; omega

/-- The indices are written as they are read. -/
theorem pay1_eq (I : Vec F S512x1 .i32) : k0_pay1 I = I := shapeCast_shapeCast I _ _
/-- So they are the second time. -/
theorem pay2_eq (I : Vec F S512x1 .i32) : k0_pay2 I = I := shapeCast_shapeCast I _ _

/-- Writing the indices at row 0 and again at row 512 leaves them written twice, whatever was there. -/
theorem ext_written (I : Vec F S512x1 .i32) (f : Vec F S1024x1 .i32) :
    (extM.access (Rect.unit (s := S1024x1) ![512, 0] S512x1.size inb_S1024x1_S512x1_512_0)).write (Elt F)
      ((extM.access (Rect.unit (s := S1024x1) ![0, 0] S512x1.size inb_S1024x1_S512x1_0_0)).write (Elt F) f I Finset.univ) I Finset.univ = ext I := by
  have e1 := View.write_whole_slice_unit (Val := Elt F) cc0_scratch0 ![0, 0] S512x1.size inb_S1024x1_S512x1_0_0 f I
  have e2 := View.write_whole_slice_unit (Val := Elt F) cc0_scratch0 ![512, 0] S512x1.size inb_S1024x1_S512x1_512_0
    ((extM.access (Rect.unit (s := S1024x1) ![0, 0] S512x1.size inb_S1024x1_S512x1_0_0)).write (Elt F) f I Finset.univ) I
  refine e2.trans ?_
  rw [show (extM.access (Rect.unit (s := S1024x1) ![0, 0] S512x1.size inb_S1024x1_S512x1_0_0)).write (Elt F) f I Finset.univ = _ from e1]
  funext x
  have hx0 : (x 0).val < 1024 := (x 0).isLt
  have hx1 : (x 1).val < 1 := (x 1).isLt
  unfold updateSlice ext
  split
  · next h =>
    have h0 : 512 ≤ (x 0).val ∧ (x 0).val < 512 + 512 := h 0
    refine congrArg I (funext fun a => Fin.ext ?_)
    fin_cases a
    · show (x 0).val - 512 = (x 0).val % 512; omega
    · show (x 1).val - 0 = (x 1).val % 1; omega
  · next h =>
    have h0 : ¬ 512 ≤ (x 0).val := fun h0 => h fun a => by
      fin_cases a
      · show 512 ≤ (x 0).val ∧ (x 0).val < 512 + 512; omega
      · show 0 ≤ (x 1).val ∧ (x 1).val < 0 + 1; omega
    split
    · next h' =>
      refine congrArg I (funext fun a => Fin.ext ?_)
      fin_cases a
      · show (x 0).val - 0 = (x 0).val % 512; omega
      · show (x 1).val - 0 = (x 1).val % 1; omega
    · next h' =>
      refine absurd ?_ h'
      intro a
      fin_cases a
      · show 0 ≤ (x 0).val ∧ (x 0).val < 0 + 512; omega
      · show 0 ≤ (x 1).val ∧ (x 1).val < 0 + 1; omega

/-! ## The three signals -/

/-- What device `c` needs to signal the device `e + 1` places on: its right to, and its own landing pieces. -/
def bid (c : Dev nD) (e : Fin 3) : sProp 𝕄 :=
  iprop(dutyTok ER (barCell (peer c e)) 0 e.rev ∗ reached ER (barCell (peer c e)) 0 ∗ ready (peer c e) e.rev)

/-- The signal to the device `e + 1` places on: it pays one unit of what is owed and passes on the landing pieces. -/
theorem signal_peer (κ : GSem nD τ sig → ℕ) (e : Fin 3) (O : CellTallies nD τ sig Unit) {dv : Dev nD} (hdv : dv = peer c e)
    {k : PUnit → Prog (TpuEff nD τ sig (Elt F) Λ₀ .tc) PUnit} :
    iprop(pers X κ ∗ bid c e ∗ owing c (O + tallyAt (barCell (peer c e)) () 1))
      ⊢ iprop((owing c O -∗ Runs c (k ⟨⟩) Q) -∗ Runs c (.op (.semSignal (Dev.tc dv : Thread nD τ) barS 1) k) Q) := by
  subst hdv
  unfold bid owing
  iintro ⟨#HP, ⟨Ht, #Hr, Hp⟩, ⟨%W, HO⟩⟩ Hk
  iapply (Rounds.wp_signal Variants.none ER (rd X) (c : Thread nD τ) none (dst := ((peer c e : Dev nD) : Thread nD τ)) (sem := barS) (r := 0) (d := e.rev)
      (k' := 1) (κ := κ (barCell (peer c e))) (by rw [duties_bar]; exact Finset.mem_univ _) rfl () O rfl (W := W)) $$ [HO Ht Hp]
  · isplitr; · iapply (pers_bar X κ (peer c e)); iexact HP
    isplitl [HO]; · iexact HO
    isplitl [Ht]; · iexact Ht
    isplitl [Hp]
    · iapply (show (ready (peer c e) e.rev : sProp 𝕄) ⊢ (rd X).payload (barCell (peer c e)) 0 e.rev from Entails.of_eq (payload_bar X (peer c e) e.rev).symm)
      iexact Hp
    iexact Hr
  iintro HO
  iapply Hk
  iexists W
  iexact HO

/-! ## Up to the barrier -/

/-- The rights to send every lane in role `r`, except for the places to send to. -/
def grants (r r' : Fin 4) (c : Dev nD) : sProp 𝕄 :=
  bigSep Finset.univ fun i : Lane => iprop((dutyTok ER (cell r c i) 0 0 ∗ reached ER (cell r c i) 0) ∗ dutyTok ER (far r' c i) 0 0)

/-- What device `c` keeps by it until the barrier is passed. -/
def gear (c : Dev nD) : sProp 𝕄 :=
  iprop((bigSep Finset.univ fun i : Lane => anyOf (tile4 sendM i) c) ∗ (bigSep Finset.univ fun h : Fin 4 => anyOf (tile3 sumM h) c)
    ∗ grants 0 1 c ∗ grants 2 3 c
    ∗ (bigSep Finset.univ fun i : Lane => waited X 1 c i 0) ∗ (bigSep Finset.univ fun i : Lane => waited X 3 c i 0) ∗ outAt X c 0 0)

/-- The right to wait at the barrier. -/
def gate (c : Dev nD) : sProp 𝕄 := iprop(cred (tallyAt (barCell c) () 3) ∗ atPos ER (barCell c) 0 ∅ 0)

/-- At the beginning. -/
def Open (κ : GSem nD τ sig → ℕ) (Z : sProp 𝕄) (c : Dev nD) : sProp 𝕄 :=
  iprop(pers X κ ∗ (bid c 0 ∗ bid c 1 ∗ bid c 2) ∗ gate c ∗ owing c (owed₀ c) ∗ idsAt X c ∗ tabAt X c ∗ extAny c ∗ gear X c ∗ Z)
/-- The indices are written twice and the first signal is given. -/
def Open₁ (κ : GSem nD τ sig → ℕ) (Z : sProp 𝕄) (c : Dev nD) : sProp 𝕄 :=
  iprop(pers X κ ∗ (bid c 1 ∗ bid c 2) ∗ gate c ∗ owing c (owed c 0 0 + tallyAt (barCell (peer c 2)) () 1 + tallyAt (barCell (peer c 1)) () 1)
    ∗ idsAt X c ∗ tabAt X c ∗ extAt X c ∗ gear X c ∗ Z)

/-- Part 1 of the body: the indices are written twice and the first signal is given. -/
theorem run_part1 {kk : _ → Prog (TpuEff nD τ sig (Elt F) Λ₀ .tc) PUnit}
    (hk : ∀ v29 v30 v31, (Open₁ X κ Z c : sProp 𝕄) ⊢ Runs c (kk ⟨c, word c, SemArray.scalar (sig.barrier 0 rfl), v29, v30, v31⟩) Q) :
    (Open X κ Z c : sProp 𝕄) ⊢ Runs c (onBuffers (k0_part1 (F := F)) >>= kk) Q := by
  rw [k0_part1_eq_skeleton]
  simp only [onBuffers, k0_part1_skel, Prog.lift, Prog.bind_op, Prog.bind_ret, Prog.pure_eq_ret, bind_assoc, pure_bind, semSignalWord]
  unfold Runs
  rw [wp_deviceId]
  unfold Open idsAt extAny
  iintro ⟨#HP, ⟨H0, H1, H2⟩, HG, HO, HI, HT, ⟨%f, HX⟩, HY, HZ⟩
  iapply (wp_load_rect Variants.none (c : Thread nD τ) none Set.univ (m := idsM) (r := Rect.unit (s := S512x1) ![0, 0] S512x1.size inb_S512x1_S512x1_0_0) (S := Finset.univ) (Finset.subset_univ _)) $$ [HI]
  · iexact HI
  iintro HI
  iapply (wp_load_rect Variants.none (c : Thread nD τ) none Set.univ (m := extM) (r := Rect.unit (s := S1024x1) ![0, 0] S512x1.size inb_S1024x1_S512x1_0_0) (S := Finset.univ) (Finset.subset_univ _)) $$ [HX]
  · iexact HX
  iintro HX
  rw [read_ids, pay1_eq]
  iapply (wp_store Variants.none (c : Thread nD τ) none Set.univ (m := extM) (r := Rect.unit (s := S1024x1) ![0, 0] S512x1.size inb_S1024x1_S512x1_0_0) (S := Finset.univ) (Finset.subset_univ _)) $$ [HX]
  · iexact HX
  iintro HX
  iapply (wp_load_rect Variants.none (c : Thread nD τ) none Set.univ (m := idsM) (r := Rect.unit (s := S512x1) ![0, 0] S512x1.size inb_S512x1_S512x1_0_0) (S := Finset.univ) (Finset.subset_univ _)) $$ [HI]
  · iexact HI
  iintro HI
  iapply (wp_load_rect Variants.none (c : Thread nD τ) none Set.univ (m := extM) (r := Rect.unit (s := S1024x1) ![512, 0] S512x1.size inb_S1024x1_S512x1_512_0) (S := Finset.univ) (Finset.subset_univ _)) $$ [HX]
  · iexact HX
  iintro HX
  rw [read_ids, pay2_eq]
  iapply (wp_store Variants.none (c : Thread nD τ) none Set.univ (m := extM) (r := Rect.unit (s := S1024x1) ![512, 0] S512x1.size inb_S1024x1_S512x1_512_0) (S := Finset.univ) (Finset.subset_univ _)) $$ [HX]
  · iexact HX
  rw [ext_written]
  iintro HX
  iapply (signal_peer X κ 0 (owed c 0 0 + tallyAt (barCell (peer c 2)) () 1 + tallyAt (barCell (peer c 1)) () 1) (dev_of (f := k0_dev1) (by decide +kernel) c)) $$ [H0 HO]
  · isplitr; · iexact HP
    isplitl [H0]; · iexact H0
    iexact HO
  iintro HO
  iapply (hk _ _ _)
  unfold Open₁ extAt
  isplitr; · iexact HP
  isplitl [H1 H2]; · isplitl [H1] <;> iassumption
  isplitl [HG]; · iexact HG
  isplitl [HO]; · iexact HO
  isplitl [HI]; · unfold idsAt; iexact HI
  isplitl [HT]; · iexact HT
  isplitl [HX]; · iexact HX
  isplitl [HY]; · iexact HY
  iexact HZ

/-! ## Past the barrier -/

/-- At the beginning every member is at its first stage. -/
theorem fam_zero {ι : Type} [Fintype ι] (P : ι → ℕ → sProp 𝕄) (s : ℕ) (rk : ι → ℕ) :
    fam P s rk 0 = bigSep Finset.univ fun i => P i 0 := by
  unfold fam
  exact bigSep_congr fun i _ => by rw [Nat.zero_sub]

/-- What the three signals bring, lane by lane: the places to send the parts to, and those to send the sums to. -/
theorem ready_lanes (c : Dev nD) : (bigSep Finset.univ fun e : Fin 3 => (ready c e : sProp 𝕄))
    = iprop((bigSep Finset.univ fun i : Lane => iprop(anyOf (tile4 recvM i) (peer c i.2) ∗ reached ER (far 1 c i) 0))
      ∗ bigSep Finset.univ fun i : Lane => iprop(anyOf (tile4 gathM i) (peer c i.2) ∗ reached ER (far 3 c i) 0)) := by
  rw [← bigSep_sep', bigSep_univ_equiv (Equiv.prodComm (Fin 3) (Fin 4)), bigSep_univ_prod]
  rfl

/-- With the places to send to the grants are rights. -/
theorem grants_rights (r r' : Fin 4) (M : Memref sig .tc .vmem S4x3x128x128 .bf16) (c : Dev nD) :
    iprop(grants r r' c ∗ bigSep Finset.univ fun i : Lane => iprop(anyOf (tile4 M i) (peer c i.2) ∗ reached ER (far r' c i) 0))
      ⊢ (bigSep Finset.univ fun i : Lane => rights r r' (tile4 M i) c i : sProp 𝕄) := by
  unfold grants
  rw [← bigSep_sep']
  have h (i : Lane) : iprop(((dutyTok ER (cell r c i) 0 0 ∗ reached ER (cell r c i) 0) ∗ dutyTok ER (far r' c i) 0 0)
      ∗ (anyOf (tile4 M i) (peer c i.2) ∗ reached ER (far r' c i) 0)) ⊢ (rights r r' (tile4 M i) c i : sProp 𝕄) := by
    unfold rights
    iintro ⟨⟨H1, H2⟩, H3⟩
    isplitl [H1]; · iexact H1
    isplitl [H2]; · iexact H2
    iexact H3
  exact bigSep_mono fun i _ => h i

/-- Past the barrier everything is ready for the exchange. -/
theorem ready_St (Z : sProp 𝕄) : iprop(pers X κ ∗ gear X c ∗ (bigSep Finset.univ fun e : Fin 3 => ready c e) ∗ owing c (owed c 0 0) ∗ extAt X c ∗ Z)
    ⊢ (St X κ Z c 0 0 0 0 0 0 : sProp 𝕄) := by
  rw [ready_lanes]
  unfold gear St
  rw [fam_zero, fam_zero, fam_zero, fam_zero]
  iintro ⟨#HP, ⟨HS, HG, Hg1, Hg3, HA, HB, HU⟩, ⟨Hr1, Hr3⟩, HO, HX, HZ⟩
  ihave Hr1 := (grants_rights 0 1 recvM c) $$ [Hg1 Hr1]
  · isplitl [Hg1] <;> iassumption
  ihave Hr3 := (grants_rights 2 3 gathM c) $$ [Hg3 Hr3]
  · isplitl [Hg3] <;> iassumption
  isplitr; · iexact HP
  isplitl [HS Hr1]
  · iapply (show iprop((bigSep Finset.univ fun i : Lane => anyOf (tile4 sendM i) c) ∗ bigSep Finset.univ fun i : Lane => rights 0 1 (tile4 recvM i) c i)
      ⊢ (bigSep Finset.univ fun i : Lane => partAt X c i 0 : sProp 𝕄) from by
        rw [← bigSep_sep']; exact Entails.rfl)
    isplitl [HS] <;> iassumption
  isplitl [HG Hr3]
  · iapply (show iprop((bigSep Finset.univ fun h : Fin 4 => anyOf (tile3 sumM h) c) ∗ bigSep Finset.univ fun i : Lane => rights 2 3 (tile4 gathM i) c i)
      ⊢ (bigSep Finset.univ fun h : Fin 4 => sumAt X c h 0 : sProp 𝕄) from by
        rw [bigSep_univ_prod, ← bigSep_sep']
        refine Entails.of_eq (bigSep_congr fun h _ => ?_)
        rw [bigSep_three]
        rfl)
    isplitl [HG] <;> iassumption
  isplitl [HA]; · iexact HA
  isplitl [HB]; · iexact HB
  isplitl [HO]; · iexact HO
  isplitl [HU]; · iexact HU
  isplitl [HX]; · iexact HX
  iexact HZ

/-- Part 2 of the body: the other two signals are given and the barrier is waited for. -/
theorem run_part2 (v29 v30 v31 : BitVec 32) {kk : _ → Prog (TpuEff nD τ sig (Elt F) Λ₀ .tc) PUnit}
    (hk : (St X κ iprop(atPos ER (barCell c) 1 ∅ 0 ∗ idsAt X c ∗ tabAt X c ∗ Z) c 0 0 0 0 0 0 : sProp 𝕄)
      ⊢ Runs c (kk ⟨Scalar.muli (word c) 4096#32, iota .tc S256x4096 32 [1] iota_S256x4096_d1_w32, k0_pay3 (X.tab c), k0_pay4 (word c) (ids2 (X.ids c) c 0)⟩) Q) :
    (Open₁ X κ Z c : sProp 𝕄) ⊢ Runs c (onBuffers (k0_part2 (F := F)) c (word c) (SemArray.scalar (sig.barrier 0 rfl)) v29 v30 v31 >>= kk) Q := by
  rw [k0_part2_eq_skeleton]
  simp only [onBuffers, k0_part2_skel, Prog.lift, Prog.bind_op, Prog.bind_ret, Prog.pure_eq_ret, bind_assoc, pure_bind, semSignalWord, semWaitWord]
  unfold Open₁ gate
  iintro ⟨#HP, ⟨H1, H2⟩, ⟨Hc, Ha⟩, HO, HI, HT, HX, HY, HZ⟩
  iapply (signal_peer X κ 1 (owed c 0 0 + tallyAt (barCell (peer c 2)) () 1) (dev_of (f := k0_dev2) (by decide +kernel) c)) $$ [H1 HO]
  · isplitr; · iexact HP
    isplitl [H1]; · iexact H1
    iexact HO
  iintro HO
  iapply (signal_peer X κ 2 (owed c 0 0) (dev_of (f := k0_dev3) (by decide +kernel) c)) $$ [H2 HO]
  · isplitr; · iexact HP
    isplitl [H2]; · iexact H2
    iexact HO
  iintro HO
  unfold owing
  icases HO with ⟨%W, HO⟩
  iapply (Rounds.wp_wait_rest_token Variants.none ER (rd X) (c : Thread nD τ) none (κ := κ (barCell c))
      (wpE_semWait_eq Variants.none (c : Thread nD τ) none Set.univ) (Set.mem_univ _) () (O := owed c 0 0) (W := W) (R := 0) (m := 0) (T := ∅)
      ((Nat.zero_add 3).trans (expect_bar X c).symm)) $$ [Hc HO Ha]
  · isplitr; · iapply (pers_bar X κ c); iexact HP
    isplitl [Hc]; · iexact Hc
    isplitl [HO]; · iexact HO
    isplitr; · iapply (may_bar c 0 0); iapply (pers_lev X κ); iexact HP
    iexact Ha
  iintro ⟨HO, Ha, -, Hp⟩
  ihave Hp := (Entails.of_eq (rest_bar X c)) $$ Hp
  unfold tabAt extAt
  iapply (wp_load_rect Variants.none (c : Thread nD τ) none Set.univ (m := tabM) (r := Rect.unit (s := S4096x512) ![0, 0] S4096x512.size inb_S4096x512_S4096x512_0_0) (S := Finset.univ) (Finset.subset_univ _)) $$ [HT]
  · iexact HT
  iintro HT
  iapply (wp_load_rect Variants.none (c : Thread nD τ) none Set.univ (m := extM) (r := Rect.unit (s := S1024x1) (k0_off1 c 1#32) S256x1.size (k0_off1_inb c 0)) (S := Finset.univ) (Finset.subset_univ _)) $$ [HX]
  · iexact HX
  iintro HX
  rw [read_tab]
  iapply hk
  iapply (ready_St X)
  isplitr; · iexact HP
  isplitl [HY]; · iexact HY
  isplitl [Hp]; · iexact Hp
  isplitl [HO]; · unfold owing; iexists _; iexact HO
  isplitl [HX]; · unfold extAt; iexact HX
  isplitl [Ha]; · iexact Ha
  isplitl [HI]; · iexact HI
  isplitl [HT]; · unfold tabAt; iexact HT
  iexact HZ

end Cert.KernelIdeal.Run
-- ==== Proof.PartsSend.lean ====
/- Device `c` stores and sends its twelve parts. -/
module

public import proofs.«01_k».proof.Proof.Buffers

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)
variable {κ : GSem nD τ sig → ℕ} {c : Dev nD}
variable {Z : sProp (MT nD τ sig Unit (Elt F) ℕ UU ℕ)}
variable {Q : PUnit → sProp (MT nD τ sig Unit (Elt F) ℕ UU ℕ)}

/-- Part 3 of the body: two steps of sending the parts. -/
theorem run_part3 (v2 : BitVec 32) {kk : _ → Prog (TpuEff nD τ sig (Elt F) Λ₀ .tc) PUnit}
    (hk : ∀ v81, (St X κ Z c 2 0 0 0 0 0 : sProp 𝕄) ⊢ Runs c (kk ⟨(passA (X.ids c) (X.tab c) c), (rowsFor (X.ids c) (X.tab c) c 1), v81, (part X c (1, 1))⟩) Q) :
    (St X κ Z c 0 0 0 0 0 0 : sProp 𝕄) ⊢ Runs c (onBuffers (k0_part3 (F := F)) c v2 (k0_pay3 (X.tab c)) (k0_pay4 (word c) (ids2 (X.ids c) c 0)) >>= kk) Q := by
  rw [k0_part3_eq_skeleton]
  simp only [onBuffers, k0_part3_skel, Prog.lift, Prog.bind_op, Prog.bind_ret, Prog.pure_eq_ret, bind_assoc, pure_bind]
  refine part_dead X (0, 1) rfl fun _ => ?_
  refine part_store X (0, 1) rfl rfl ?_
  refine part_send X (0, 1) rfl (dev_of (f := k0_dev4) (by decide +kernel) c) rfl rfl ?_
  exact hk _

/-- Part 4 of the body: three steps of sending the parts. -/
theorem run_part4 (v81 : BitVec 32) {kk : _ → Prog (TpuEff nD τ sig (Elt F) Λ₀ .tc) PUnit}
    (hk : (St X κ Z c 5 0 0 0 0 0 : sProp 𝕄) ⊢ Runs c (kk ⟨⟩) Q) :
    (St X κ Z c 2 0 0 0 0 0 : sProp 𝕄) ⊢ Runs c (onBuffers (k0_part4 (F := F)) c (rowsFor (X.ids c) (X.tab c) c 1) v81 (part X c (1, 1)) >>= kk) Q := by
  rw [k0_part4_eq_skeleton]
  simp only [onBuffers, k0_part4_skel, Prog.lift, Prog.bind_op, Prog.bind_ret, Prog.pure_eq_ret, bind_assoc, pure_bind]
  refine part_dead X (1, 1) rfl fun _ => ?_
  refine part_store X (1, 1) rfl rfl ?_
  refine part_send X (1, 1) rfl (dev_of (f := k0_dev5) (by decide +kernel) c) rfl rfl ?_
  refine part_dead X (2, 1) rfl fun _ => ?_
  refine part_store X (2, 1) rfl rfl ?_
  exact hk

/-- Part 5 of the body: three steps of sending the parts. -/
theorem run_part5 (v2 : BitVec 32) (v81 : BitVec 32) {kk : _ → Prog (TpuEff nD τ sig (Elt F) Λ₀ .tc) PUnit}
    (hk : ∀ v149, (St X κ Z c 8 0 0 0 0 0 : sProp 𝕄) ⊢ Runs c (kk ⟨(rowsFor (X.ids c) (X.tab c) c 0), v149⟩) Q) :
    (St X κ Z c 5 0 0 0 0 0 : sProp 𝕄) ⊢ Runs c (onBuffers (k0_part5 (F := F)) c v2 (passA (X.ids c) (X.tab c) c) (rowsFor (X.ids c) (X.tab c) c 1) v81 >>= kk) Q := by
  rw [k0_part5_eq_skeleton]
  simp only [onBuffers, k0_part5_skel, Prog.lift, Prog.bind_op, Prog.bind_ret, Prog.pure_eq_ret, bind_assoc, pure_bind]
  refine part_send X (2, 1) rfl (dev_of (f := k0_dev6) (by decide +kernel) c) rfl rfl ?_
  refine part_dead X (3, 1) rfl fun _ => ?_
  refine part_store X (3, 1) rfl rfl ?_
  refine part_send X (3, 1) rfl (dev_of (f := k0_dev7) (by decide +kernel) c) rfl rfl ?_
  exact hk _

/-- Part 6 of the body: three steps of sending the parts. -/
theorem run_part6 (v149 : BitVec 32) {kk : _ → Prog (TpuEff nD τ sig (Elt F) Λ₀ .tc) PUnit}
    (hk : (St X κ Z c 11 0 0 0 0 0 : sProp 𝕄) ⊢ Runs c (kk ⟨⟩) Q) :
    (St X κ Z c 8 0 0 0 0 0 : sProp 𝕄) ⊢ Runs c (onBuffers (k0_part6 (F := F)) c (rowsFor (X.ids c) (X.tab c) c 0) v149 >>= kk) Q := by
  rw [k0_part6_eq_skeleton]
  simp only [onBuffers, k0_part6_skel, Prog.lift, Prog.bind_op, Prog.bind_ret, Prog.pure_eq_ret, bind_assoc, pure_bind]
  refine part_dead X (0, 0) rfl fun _ => ?_
  refine part_store X (0, 0) rfl rfl ?_
  refine part_send X (0, 0) rfl (dev_of (f := k0_dev8) (by decide +kernel) c) rfl rfl ?_
  refine part_dead X (1, 0) rfl fun _ => ?_
  refine part_store X (1, 0) rfl rfl ?_
  exact hk

/-- Part 7 of the body: four steps of sending the parts. -/
theorem run_part7 (v149 : BitVec 32) {kk : _ → Prog (TpuEff nD τ sig (Elt F) Λ₀ .tc) PUnit}
    (hk : ∀ c1_i32_187, (St X κ Z c 15 0 0 0 0 0 : sProp 𝕄) ⊢ Runs c (kk c1_i32_187) Q) :
    (St X κ Z c 11 0 0 0 0 0 : sProp 𝕄) ⊢ Runs c (onBuffers (k0_part7 (F := F)) c (rowsFor (X.ids c) (X.tab c) c 0) v149 >>= kk) Q := by
  rw [k0_part7_eq_skeleton]
  simp only [onBuffers, k0_part7_skel, Prog.lift, Prog.bind_op, Prog.bind_ret, Prog.pure_eq_ret, bind_assoc, pure_bind]
  refine part_send X (1, 0) rfl (dev_of (f := k0_dev9) (by decide +kernel) c) rfl rfl ?_
  refine part_dead X (2, 0) rfl fun _ => ?_
  refine part_store X (2, 0) rfl rfl ?_
  refine part_send X (2, 0) rfl (dev_of (f := k0_dev10) (by decide +kernel) c) rfl rfl ?_
  refine part_dead X (3, 0) rfl fun _ => ?_
  refine part_store X (3, 0) rfl rfl ?_
  exact hk _

/-- Part 8 of the body: one step of sending the parts. -/
theorem run_part8 (v2 : BitVec 32) (v149 : BitVec 32) (c1_i32_187 : BitVec 32) {kk : _ → Prog (TpuEff nD τ sig (Elt F) Λ₀ .tc) PUnit}
    (hk : ∀ v230, (St X κ Z c 16 0 0 0 0 0 : sProp 𝕄) ⊢ Runs c (kk ⟨(passB (X.ids c) (X.tab c) c), (rowsFor (X.ids c) (X.tab c) c 2), v230, (shapeCast S1x1x128x128 (part X c (0, 2)) shapeCasts_S128x128_S1x1x128x128)⟩) Q) :
    (St X κ Z c 15 0 0 0 0 0 : sProp 𝕄) ⊢ Runs c (onBuffers (k0_part8 (F := F)) c v2 (Scalar.muli (word c) 4096#32) (iota .tc S256x4096 32 [1] iota_S256x4096_d1_w32) (k0_pay3 (X.tab c)) v149 c1_i32_187 >>= kk) Q := by
  rw [k0_part8_eq_skeleton]
  simp only [onBuffers, k0_part8_skel, Prog.lift, Prog.bind_op, Prog.bind_ret, Prog.pure_eq_ret, bind_assoc, pure_bind]
  refine part_send X (3, 0) rfl (dev_of (f := k0_dev11) (by decide +kernel) c) rfl rfl ?_
  refine ids_load X ?_
  refine part_dead X (0, 2) rfl fun _ => ?_
  exact hk _

/-- Part 9 of the body: four steps of sending the parts. -/
theorem run_part9 (v230 : BitVec 32) {kk : _ → Prog (TpuEff nD τ sig (Elt F) Λ₀ .tc) PUnit}
    (hk : (St X κ Z c 20 0 0 0 0 0 : sProp 𝕄) ⊢ Runs c (kk ⟨⟩) Q) :
    (St X κ Z c 16 0 0 0 0 0 : sProp 𝕄) ⊢ Runs c (onBuffers (k0_part9 (F := F)) c (rowsFor (X.ids c) (X.tab c) c 2) v230 (shapeCast S1x1x128x128 (part X c (0, 2)) shapeCasts_S128x128_S1x1x128x128) >>= kk) Q := by
  rw [k0_part9_eq_skeleton]
  simp only [onBuffers, k0_part9_skel, Prog.lift, Prog.bind_op, Prog.bind_ret, Prog.pure_eq_ret, bind_assoc, pure_bind]
  refine part_store X (0, 2) rfl rfl ?_
  refine part_send X (0, 2) rfl (dev_of (f := k0_dev12) (by decide +kernel) c) rfl rfl ?_
  refine part_dead X (1, 2) rfl fun _ => ?_
  refine part_store X (1, 2) rfl rfl ?_
  refine part_send X (1, 2) rfl (dev_of (f := k0_dev13) (by decide +kernel) c) rfl rfl ?_
  exact hk

/-- Part 10 of the body: three steps of sending the parts. -/
theorem run_part10 (v230 : BitVec 32) {kk : _ → Prog (TpuEff nD τ sig (Elt F) Λ₀ .tc) PUnit}
    (hk : (St X κ Z c 23 0 0 0 0 0 : sProp 𝕄) ⊢ Runs c (kk ⟨⟩) Q) :
    (St X κ Z c 20 0 0 0 0 0 : sProp 𝕄) ⊢ Runs c (onBuffers (k0_part10 (F := F)) c (rowsFor (X.ids c) (X.tab c) c 2) v230 >>= kk) Q := by
  rw [k0_part10_eq_skeleton]
  simp only [onBuffers, k0_part10_skel, Prog.lift, Prog.bind_op, Prog.bind_ret, Prog.pure_eq_ret, bind_assoc, pure_bind]
  refine part_dead X (2, 2) rfl fun _ => ?_
  refine part_store X (2, 2) rfl rfl ?_
  refine part_send X (2, 2) rfl (dev_of (f := k0_dev14) (by decide +kernel) c) rfl rfl ?_
  refine part_dead X (3, 2) rfl fun _ => ?_
  refine part_store X (3, 2) rfl rfl ?_
  exact hk

/-- Part 11 of the body: one step of sending the parts and one part received. -/
theorem run_part11 (v149 : BitVec 32) (v230 : BitVec 32) {kk : _ → Prog (TpuEff nD τ sig (Elt F) Λ₀ .tc) PUnit}
    (hk : (St X κ Z c 24 0 1 0 0 0 : sProp 𝕄) ⊢ Runs c (kk ⟨(ownRows X c), (addf (cols 0 (ownRows X c)) (part X (back c 0) (0, 0)))⟩) Q) :
    (St X κ Z c 23 0 0 0 0 0 : sProp 𝕄) ⊢ Runs c (onBuffers (k0_part11 (F := F)) c v149 (passB (X.ids c) (X.tab c) c) v230 >>= kk) Q := by
  rw [k0_part11_eq_skeleton]
  simp only [onBuffers, k0_part11_skel, Prog.lift, Prog.bind_op, Prog.bind_ret, Prog.pure_eq_ret, bind_assoc, pure_bind, k0_pay24]
  refine part_send X (3, 2) rfl (dev_of (f := k0_dev15) (by decide +kernel) c) rfl rfl ?_
  refine part_wait X (0, 0) rfl rfl rfl ?_
  refine part_load X (0, 0) rfl ?_
  simp only [piece_back]
  exact hk

end Cert.KernelIdeal.Run
-- ==== Proof.PartsSum.lean ====
/- Device `c` receives the parts meant for it, sums them, sends the sums, writes its own block of the result. -/
module

public import proofs.«01_k».proof.Proof.Buffers

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)
variable {κ : GSem nD τ sig → ℕ} {c : Dev nD}
variable {Z : sProp (MT nD τ sig Unit (Elt F) ℕ UU ℕ)}
variable {Q : PUnit → sProp (MT nD τ sig Unit (Elt F) ℕ UU ℕ)}

/-- Part 12 of the body: one step of sending the sums and two parts received. -/
theorem run_part12 (v2 : BitVec 32) (v81 : BitVec 32) {kk : _ → Prog (TpuEff nD τ sig (Elt F) Λ₀ .tc) PUnit}
    (hk : ∀ v327 v328 v329 v330 c0_i32_339, (St X κ Z c 24 1 3 0 0 0 : sProp 𝕄) ⊢ Runs c (kk ⟨(total X c 0), v327, v328, v329, v330, c0_i32_339⟩) Q) :
    (St X κ Z c 24 0 1 0 0 0 : sProp 𝕄) ⊢ Runs c (onBuffers (k0_part12 (F := F)) v2 v81 (addf (cols 0 (ownRows X c)) (part X (back c 0) (0, 0))) >>= kk) Q := by
  rw [k0_part12_eq_skeleton]
  simp only [onBuffers, k0_part12_skel, Prog.lift, Prog.bind_op, Prog.bind_ret, Prog.pure_eq_ret, bind_assoc, pure_bind, k0_pay25, k0_pay26]
  refine part_wait X (0, 2) rfl rfl rfl ?_
  refine part_load X (0, 2) rfl ?_
  simp only [piece_back]
  refine part_wait X (0, 1) rfl rfl rfl ?_
  refine part_load X (0, 1) rfl ?_
  simp only [piece_back]
  refine sum_dead X 0 rfl fun _ => ?_
  refine sum_store X 0 rfl rfl ?_
  exact hk _ _ _ _ _

/-- Part 13 of the body: one step of sending the sums. -/
theorem run_part13 (v2 : BitVec 32) (v327 : BitVec 32) (v328 : BitVec 32) (v329 : BitVec 1) (v330 : BitVec 1) (c0_i32_339 : BitVec 32) {kk : _ → Prog (TpuEff nD τ sig (Elt F) Λ₀ .tc) PUnit}
    (hk : ∀ v335 v356, (St X κ Z c 24 2 3 0 0 0 : sProp 𝕄) ⊢ Runs c (kk ⟨v335, v356⟩) Q) :
    (St X κ Z c 24 1 3 0 0 0 : sProp 𝕄) ⊢ Runs c (onBuffers (k0_part13 (F := F)) c v2 v327 v328 v329 v330 c0_i32_339 >>= kk) Q := by
  rw [k0_part13_eq_skeleton]
  simp only [onBuffers, k0_part13_skel, Prog.lift, Prog.bind_op, Prog.bind_ret, Prog.pure_eq_ret, bind_assoc, pure_bind]
  refine sum_send X (0, 1) rfl (dev_of (f := k0_dev16) (by decide +kernel) c) rfl rfl ?_
  exact hk _ _

/-- Part 14 of the body: two steps of sending the sums and one own block of the result written. -/
theorem run_part14 (v2 : BitVec 32) {kk : _ → Prog (TpuEff nD τ sig (Elt F) Λ₀ .tc) PUnit}
    (hk : ∀ v377, (St X κ Z c 24 4 3 0 1 0 : sProp 𝕄) ⊢ Runs c (kk ⟨v377, (cols 1 (ownRows X c))⟩) Q) :
    (St X κ Z c 24 2 3 0 0 0 : sProp 𝕄) ⊢ Runs c (onBuffers (k0_part14 (F := F)) c v2 (ownRows X c) (total X c 0) >>= kk) Q := by
  rw [k0_part14_eq_skeleton]
  simp only [onBuffers, k0_part14_skel, Prog.lift, Prog.bind_op, Prog.bind_ret, Prog.pure_eq_ret, bind_assoc, pure_bind, k0_pay27]
  refine sum_send X (0, 0) rfl (dev_of (f := k0_dev17) (by decide +kernel) c) rfl rfl ?_
  refine sum_send X (0, 2) rfl (dev_of (f := k0_dev18) (by decide +kernel) c) rfl rfl ?_
  refine out_dead X _ fun _ => ?_
  refine out_own X 0 rfl (k0_off2_eq c) rfl ?_
  exact hk _

/-- Part 15 of the body: two parts received. -/
theorem run_part15 (v149 : BitVec 32) (v230 : BitVec 32) {kk : _ → Prog (TpuEff nD τ sig (Elt F) Λ₀ .tc) PUnit}
    (hk : (St X κ Z c 24 4 5 0 1 0 : sProp 𝕄) ⊢ Runs c (kk (subtotal X c 1)) Q) :
    (St X κ Z c 24 4 3 0 1 0 : sProp 𝕄) ⊢ Runs c (onBuffers (k0_part15 (F := F)) v149 v230 (cols 1 (ownRows X c)) >>= kk) Q := by
  rw [k0_part15_eq_skeleton]
  simp only [onBuffers, k0_part15_skel, Prog.lift, Prog.bind_op, Prog.bind_ret, Prog.pure_eq_ret, bind_assoc, pure_bind, k0_pay28]
  refine part_wait X (1, 0) rfl rfl rfl ?_
  refine part_load X (1, 0) rfl ?_
  simp only [piece_back]
  refine part_wait X (1, 2) rfl rfl rfl ?_
  refine part_load X (1, 2) rfl ?_
  simp only [piece_back]
  exact hk

/-- Part 16 of the body: one step of sending the sums and one part received. -/
theorem run_part16 (v2 : BitVec 32) (v81 : BitVec 32) {kk : _ → Prog (TpuEff nD τ sig (Elt F) Λ₀ .tc) PUnit}
    (hk : ∀ v438, (St X κ Z c 24 5 6 0 1 0 : sProp 𝕄) ⊢ Runs c (kk ⟨(total X c 1), v438⟩) Q) :
    (St X κ Z c 24 4 5 0 1 0 : sProp 𝕄) ⊢ Runs c (onBuffers (k0_part16 (F := F)) v2 v81 (subtotal X c 1) >>= kk) Q := by
  rw [k0_part16_eq_skeleton]
  simp only [onBuffers, k0_part16_skel, Prog.lift, Prog.bind_op, Prog.bind_ret, Prog.pure_eq_ret, bind_assoc, pure_bind, k0_pay29, k0_pay30]
  refine part_wait X (1, 1) rfl rfl rfl ?_
  refine part_load X (1, 1) rfl ?_
  simp only [piece_back]
  refine sum_dead X 1 rfl fun _ => ?_
  refine sum_store X 1 rfl rfl ?_
  exact hk _

/-- Part 17 of the body: one step of sending the sums. -/
theorem run_part17 (v2 : BitVec 32) (v438 : BitVec 32) {kk : _ → Prog (TpuEff nD τ sig (Elt F) Λ₀ .tc) PUnit}
    (hk : ∀ v459, (St X κ Z c 24 6 6 0 1 0 : sProp 𝕄) ⊢ Runs c (kk v459) Q) :
    (St X κ Z c 24 5 6 0 1 0 : sProp 𝕄) ⊢ Runs c (onBuffers (k0_part17 (F := F)) c v2 v438 >>= kk) Q := by
  rw [k0_part17_eq_skeleton]
  simp only [onBuffers, k0_part17_skel, Prog.lift, Prog.bind_op, Prog.bind_ret, Prog.pure_eq_ret, bind_assoc, pure_bind]
  refine sum_send X (1, 1) rfl (dev_of (f := k0_dev19) (by decide +kernel) c) rfl rfl ?_
  exact hk _

/-- Part 18 of the body: two steps of sending the sums and one own block of the result written. -/
theorem run_part18 (v2 : BitVec 32) (v149 : BitVec 32) {kk : _ → Prog (TpuEff nD τ sig (Elt F) Λ₀ .tc) PUnit}
    (hk : ∀ v480 v495, (St X κ Z c 24 8 6 0 2 0 : sProp 𝕄) ⊢ Runs c (kk ⟨v480, (cols 2 (ownRows X c)), v495⟩) Q) :
    (St X κ Z c 24 6 6 0 1 0 : sProp 𝕄) ⊢ Runs c (onBuffers (k0_part18 (F := F)) c v2 v149 (ownRows X c) (total X c 1) >>= kk) Q := by
  rw [k0_part18_eq_skeleton]
  simp only [onBuffers, k0_part18_skel, Prog.lift, Prog.bind_op, Prog.bind_ret, Prog.pure_eq_ret, bind_assoc, pure_bind, k0_pay31]
  refine sum_send X (1, 0) rfl (dev_of (f := k0_dev20) (by decide +kernel) c) rfl rfl ?_
  refine sum_send X (1, 2) rfl (dev_of (f := k0_dev21) (by decide +kernel) c) rfl rfl ?_
  refine out_dead X _ fun _ => ?_
  refine out_own X 1 rfl (k0_off3_eq c) rfl ?_
  exact hk _ _

/-- Part 19 of the body: two parts received. -/
theorem run_part19 (v81 : BitVec 32) (v230 : BitVec 32) (v495 : BitVec 32) {kk : _ → Prog (TpuEff nD τ sig (Elt F) Λ₀ .tc) PUnit}
    (hk : ∀ v517, (St X κ Z c 24 8 8 0 2 0 : sProp 𝕄) ⊢ Runs c (kk ⟨(subtotal X c 2), v517⟩) Q) :
    (St X κ Z c 24 8 6 0 2 0 : sProp 𝕄) ⊢ Runs c (onBuffers (k0_part19 (F := F)) v81 v230 (cols 2 (ownRows X c)) v495 >>= kk) Q := by
  rw [k0_part19_eq_skeleton]
  simp only [onBuffers, k0_part19_skel, Prog.lift, Prog.bind_op, Prog.bind_ret, Prog.pure_eq_ret, bind_assoc, pure_bind, k0_pay32]
  refine part_wait X (2, 0) rfl rfl rfl ?_
  refine part_load X (2, 0) rfl ?_
  simp only [piece_back]
  refine part_wait X (2, 2) rfl rfl rfl ?_
  refine part_load X (2, 2) rfl ?_
  simp only [piece_back]
  exact hk _

/-- Part 20 of the body: one step of sending the sums and one part received. -/
theorem run_part20 (v2 : BitVec 32) (v517 : BitVec 32) {kk : _ → Prog (TpuEff nD τ sig (Elt F) Λ₀ .tc) PUnit}
    (hk : ∀ v541, (St X κ Z c 24 9 9 0 2 0 : sProp 𝕄) ⊢ Runs c (kk ⟨(total X c 2), v541⟩) Q) :
    (St X κ Z c 24 8 8 0 2 0 : sProp 𝕄) ⊢ Runs c (onBuffers (k0_part20 (F := F)) v2 (subtotal X c 2) v517 >>= kk) Q := by
  rw [k0_part20_eq_skeleton]
  simp only [onBuffers, k0_part20_skel, Prog.lift, Prog.bind_op, Prog.bind_ret, Prog.pure_eq_ret, bind_assoc, pure_bind, k0_pay33, k0_pay34]
  refine part_wait X (2, 1) rfl rfl rfl ?_
  refine part_load X (2, 1) rfl ?_
  simp only [piece_back]
  refine sum_dead X 2 rfl fun _ => ?_
  refine sum_store X 2 rfl rfl ?_
  exact hk _

/-- Part 21 of the body: two steps of sending the sums. -/
theorem run_part21 (v2 : BitVec 32) {kk : _ → Prog (TpuEff nD τ sig (Elt F) Λ₀ .tc) PUnit}
    (hk : ∀ v562 v575 v576 c0_i32_614, (St X κ Z c 24 11 9 0 2 0 : sProp 𝕄) ⊢ Runs c (kk ⟨v562, v575, v576, c0_i32_614⟩) Q) :
    (St X κ Z c 24 9 9 0 2 0 : sProp 𝕄) ⊢ Runs c (onBuffers (k0_part21 (F := F)) c v2 >>= kk) Q := by
  rw [k0_part21_eq_skeleton]
  simp only [onBuffers, k0_part21_skel, Prog.lift, Prog.bind_op, Prog.bind_ret, Prog.pure_eq_ret, bind_assoc, pure_bind]
  refine sum_send X (2, 1) rfl (dev_of (f := k0_dev22) (by decide +kernel) c) rfl rfl ?_
  refine sum_send X (2, 0) rfl (dev_of (f := k0_dev23) (by decide +kernel) c) rfl rfl ?_
  exact hk _ _ _ _

/-- Part 22 of the body: one step of sending the sums and one own block of the result written. -/
theorem run_part22 (v2 : BitVec 32) (v149 : BitVec 32) (v575 : BitVec 32) (v576 : BitVec 32) (c0_i32_614 : BitVec 32) {kk : _ → Prog (TpuEff nD τ sig (Elt F) Λ₀ .tc) PUnit}
    (hk : ∀ v583, (St X κ Z c 24 12 9 0 3 0 : sProp 𝕄) ⊢ Runs c (kk ⟨v583, (cols 3 (ownRows X c))⟩) Q) :
    (St X κ Z c 24 11 9 0 2 0 : sProp 𝕄) ⊢ Runs c (onBuffers (k0_part22 (F := F)) c v2 v149 (ownRows X c) (total X c 2) v575 v576 c0_i32_614 >>= kk) Q := by
  rw [k0_part22_eq_skeleton]
  simp only [onBuffers, k0_part22_skel, Prog.lift, Prog.bind_op, Prog.bind_ret, Prog.pure_eq_ret, bind_assoc, pure_bind, k0_pay35]
  refine sum_send X (2, 2) rfl (dev_of (f := k0_dev24) (by decide +kernel) c) rfl rfl ?_
  refine out_dead X _ fun _ => ?_
  refine out_own X 2 rfl (k0_off4_eq c) rfl ?_
  exact hk _

/-- Part 23 of the body: two parts received. -/
theorem run_part23 (v81 : BitVec 32) (v230 : BitVec 32) {kk : _ → Prog (TpuEff nD τ sig (Elt F) Λ₀ .tc) PUnit}
    (hk : (St X κ Z c 24 12 11 0 3 0 : sProp 𝕄) ⊢ Runs c (kk (subtotal X c 3)) Q) :
    (St X κ Z c 24 12 9 0 3 0 : sProp 𝕄) ⊢ Runs c (onBuffers (k0_part23 (F := F)) v81 v230 (cols 3 (ownRows X c)) >>= kk) Q := by
  rw [k0_part23_eq_skeleton]
  simp only [onBuffers, k0_part23_skel, Prog.lift, Prog.bind_op, Prog.bind_ret, Prog.pure_eq_ret, bind_assoc, pure_bind, k0_pay36]
  refine part_wait X (3, 0) rfl rfl rfl ?_
  refine part_load X (3, 0) rfl ?_
  simp only [piece_back]
  refine part_wait X (3, 2) rfl rfl rfl ?_
  refine part_load X (3, 2) rfl ?_
  simp only [piece_back]
  exact hk

/-- Part 24 of the body: two steps of sending the sums and one part received. -/
theorem run_part24 (v2 : BitVec 32) {kk : _ → Prog (TpuEff nD τ sig (Elt F) Λ₀ .tc) PUnit}
    (hk : ∀ v644 c1_i32_708, (St X κ Z c 24 14 12 0 3 0 : sProp 𝕄) ⊢ Runs c (kk ⟨(total X c 3), v644, c1_i32_708⟩) Q) :
    (St X κ Z c 24 12 11 0 3 0 : sProp 𝕄) ⊢ Runs c (onBuffers (k0_part24 (F := F)) c v2 (subtotal X c 3) >>= kk) Q := by
  rw [k0_part24_eq_skeleton]
  simp only [onBuffers, k0_part24_skel, Prog.lift, Prog.bind_op, Prog.bind_ret, Prog.pure_eq_ret, bind_assoc, pure_bind, k0_pay37, k0_pay38]
  refine part_wait X (3, 1) rfl rfl rfl ?_
  refine part_load X (3, 1) rfl ?_
  simp only [piece_back]
  refine sum_dead X 3 rfl fun _ => ?_
  refine sum_store X 3 rfl rfl ?_
  refine sum_send X (3, 1) rfl (dev_of (f := k0_dev25) (by decide +kernel) c) rfl rfl ?_
  exact hk _ _

/-- Part 25 of the body: one step of sending the sums. -/
theorem run_part25 (v2 : BitVec 32) (c1_i32_708 : BitVec 32) {kk : _ → Prog (TpuEff nD τ sig (Elt F) Λ₀ .tc) PUnit}
    (hk : ∀ v665 v686, (St X κ Z c 24 15 12 0 3 0 : sProp 𝕄) ⊢ Runs c (kk ⟨v665, v686⟩) Q) :
    (St X κ Z c 24 14 12 0 3 0 : sProp 𝕄) ⊢ Runs c (onBuffers (k0_part25 (F := F)) c v2 c1_i32_708 >>= kk) Q := by
  rw [k0_part25_eq_skeleton]
  simp only [onBuffers, k0_part25_skel, Prog.lift, Prog.bind_op, Prog.bind_ret, Prog.pure_eq_ret, bind_assoc, pure_bind]
  refine sum_send X (3, 0) rfl (dev_of (f := k0_dev26) (by decide +kernel) c) rfl rfl ?_
  exact hk _ _

/-- Part 26 of the body: one step of sending the sums and one own block of the result written. -/
theorem run_part26 (v2 : BitVec 32) (v356 : BitVec 32) (v686 : BitVec 32) {kk : _ → Prog (TpuEff nD τ sig (Elt F) Λ₀ .tc) PUnit}
    (hk : ∀ v710, (St X κ Z c 24 16 12 0 4 0 : sProp 𝕄) ⊢ Runs c (kk v710) Q) :
    (St X κ Z c 24 15 12 0 3 0 : sProp 𝕄) ⊢ Runs c (onBuffers (k0_part26 (F := F)) c v2 v356 (total X c 3) v686 >>= kk) Q := by
  rw [k0_part26_eq_skeleton]
  simp only [onBuffers, k0_part26_skel, Prog.lift, Prog.bind_op, Prog.bind_ret, Prog.pure_eq_ret, bind_assoc, pure_bind]
  refine sum_send X (3, 2) rfl (dev_of (f := k0_dev27) (by decide +kernel) c) rfl rfl ?_
  refine out_dead X _ fun _ => ?_
  refine out_own X 3 rfl (k0_off5_eq c) rfl ?_
  exact hk _

end Cert.KernelIdeal.Run
-- ==== Proof.PartsGather.lean ====
/- Device `c` receives the other devices' sums and writes their blocks of the result. -/
module

public import proofs.«01_k».proof.Proof.Buffers

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)
variable {κ : GSem nD τ sig → ℕ} {c : Dev nD}
variable {Z : sProp (MT nD τ sig Unit (Elt F) ℕ UU ℕ)}
variable {Q : PUnit → sProp (MT nD τ sig Unit (Elt F) ℕ UU ℕ)}

/-- Part 27 of the body: one sum received and one block of another device written. -/
theorem run_part27 (v2 : BitVec 32) (v377 : BitVec 32) (v710 : BitVec 32) {kk : _ → Prog (TpuEff nD τ sig (Elt F) Λ₀ .tc) PUnit}
    (hk : ∀ v734, (St X κ Z c 24 16 12 1 4 1 : sProp 𝕄) ⊢ Runs c (kk v734) Q) :
    (St X κ Z c 24 16 12 0 4 0 : sProp 𝕄) ⊢ Runs c (onBuffers (k0_part27 (F := F)) c v2 v377 v710 >>= kk) Q := by
  rw [k0_part27_eq_skeleton]
  simp only [onBuffers, k0_part27_skel, Prog.lift, Prog.bind_op, Prog.bind_ret, Prog.pure_eq_ret, bind_assoc, pure_bind, k0_pay39]
  refine sum_wait X (0, 0) rfl rfl rfl rfl ?_
  refine sum_load X (0, 0) rfl ?_
  simp only [piece_back]
  refine out_dead X _ fun _ => ?_
  refine out_other X (0, 0) rfl ((by decide +kernel : ∀ c, k0_off6 c 1#32 = ![128 * (back c 0).val, 0]) c) rfl ?_
  exact hk _

/-- Part 28 of the body: two sums received and one block of another device written. -/
theorem run_part28 (v2 : BitVec 32) (v335 : BitVec 32) (v734 : BitVec 32) {kk : _ → Prog (TpuEff nD τ sig (Elt F) Λ₀ .tc) PUnit}
    (hk : ∀ v758 c128_i32_825, (St X κ Z c 24 16 12 3 4 2 : sProp 𝕄) ⊢ Runs c (kk ⟨v758, (total X (back c 1) 0), c128_i32_825⟩) Q) :
    (St X κ Z c 24 16 12 1 4 1 : sProp 𝕄) ⊢ Runs c (onBuffers (k0_part28 (F := F)) c v2 v335 v734 >>= kk) Q := by
  rw [k0_part28_eq_skeleton]
  simp only [onBuffers, k0_part28_skel, Prog.lift, Prog.bind_op, Prog.bind_ret, Prog.pure_eq_ret, bind_assoc, pure_bind, k0_pay40, k0_pay41]
  refine sum_wait X (0, 2) rfl rfl rfl rfl ?_
  refine sum_load X (0, 2) rfl ?_
  simp only [piece_back]
  refine out_dead X _ fun _ => ?_
  refine out_other X (0, 2) rfl ((by decide +kernel : ∀ c, k0_off6 c 3#32 = ![128 * (back c 2).val, 0]) c) rfl ?_
  refine sum_wait X (0, 1) rfl rfl rfl rfl ?_
  refine sum_load X (0, 1) rfl ?_
  simp only [piece_back]
  exact hk _ _

/-- Part 29 of the body: one sum received and two blocks of other devices written. -/
theorem run_part29 (v2 : BitVec 32) (v459 : BitVec 32) (v758 : BitVec 32) (c128_i32_825 : BitVec 32) {kk : _ → Prog (TpuEff nD τ sig (Elt F) Λ₀ .tc) PUnit}
    (hk : ∀ v796 c4_i32_854, (St X κ Z c 24 16 12 4 4 4 : sProp 𝕄) ⊢ Runs c (kk ⟨v796, c4_i32_854⟩) Q) :
    (St X κ Z c 24 16 12 3 4 2 : sProp 𝕄) ⊢ Runs c (onBuffers (k0_part29 (F := F)) c v2 v459 v758 (total X (back c 1) 0) c128_i32_825 >>= kk) Q := by
  rw [k0_part29_eq_skeleton]
  simp only [onBuffers, k0_part29_skel, Prog.lift, Prog.bind_op, Prog.bind_ret, Prog.pure_eq_ret, bind_assoc, pure_bind, k0_pay42]
  refine out_dead X _ fun _ => ?_
  refine out_other X (0, 1) rfl ((by decide +kernel : ∀ c, k0_off6 c 2#32 = ![128 * (back c 1).val, 0]) c) rfl ?_
  refine sum_wait X (1, 0) rfl rfl rfl rfl ?_
  refine sum_load X (1, 0) rfl ?_
  simp only [piece_back]
  refine out_dead X _ fun _ => ?_
  refine out_other X (1, 0) rfl ((by decide +kernel : ∀ c, k0_off7 c 1#32 = ![128 * (back c 0).val, 128]) c) rfl ?_
  exact hk _ _

/-- Part 30 of the body: one sum received and one block of another device written. -/
theorem run_part30 (v2 : BitVec 32) (v480 : BitVec 32) (v796 : BitVec 32) (c4_i32_854 : BitVec 32) {kk : _ → Prog (TpuEff nD τ sig (Elt F) Λ₀ .tc) PUnit}
    (hk : ∀ v822 v823 v824 c0_i32_884, (St X κ Z c 24 16 12 5 4 5 : sProp 𝕄) ⊢ Runs c (kk ⟨v822, v823, v824, c0_i32_884⟩) Q) :
    (St X κ Z c 24 16 12 4 4 4 : sProp 𝕄) ⊢ Runs c (onBuffers (k0_part30 (F := F)) c v2 v480 v796 c4_i32_854 >>= kk) Q := by
  rw [k0_part30_eq_skeleton]
  simp only [onBuffers, k0_part30_skel, Prog.lift, Prog.bind_op, Prog.bind_ret, Prog.pure_eq_ret, bind_assoc, pure_bind, k0_pay43]
  refine sum_wait X (1, 2) rfl rfl rfl rfl ?_
  refine sum_load X (1, 2) rfl ?_
  simp only [piece_back]
  refine out_dead X _ fun _ => ?_
  refine out_other X (1, 2) rfl ((by decide +kernel : ∀ c, k0_off7 c 3#32 = ![128 * (back c 2).val, 128]) c) rfl ?_
  exact hk _ _ _ _

/-- Part 31 of the body: one sum received and one block of another device written. -/
theorem run_part31 (v2 : BitVec 32) (v438 : BitVec 32) (v822 : BitVec 32) (v823 : BitVec 32) (v824 : BitVec 1) (c0_i32_884 : BitVec 32) {kk : _ → Prog (TpuEff nD τ sig (Elt F) Λ₀ .tc) PUnit}
    (hk : ∀ v854, (St X κ Z c 24 16 12 6 4 6 : sProp 𝕄) ⊢ Runs c (kk v854) Q) :
    (St X κ Z c 24 16 12 5 4 5 : sProp 𝕄) ⊢ Runs c (onBuffers (k0_part31 (F := F)) c v2 v438 v822 v823 v824 c0_i32_884 >>= kk) Q := by
  rw [k0_part31_eq_skeleton]
  simp only [onBuffers, k0_part31_skel, Prog.lift, Prog.bind_op, Prog.bind_ret, Prog.pure_eq_ret, bind_assoc, pure_bind, k0_pay44]
  refine sum_wait X (1, 1) rfl rfl rfl rfl ?_
  refine sum_load X (1, 1) rfl ?_
  simp only [piece_back]
  refine out_dead X _ fun _ => ?_
  refine out_other X (1, 1) rfl ((by decide +kernel : ∀ c, k0_off7 c 2#32 = ![128 * (back c 1).val, 128]) c) rfl ?_
  exact hk _

/-- Part 32 of the body: one sum received and one block of another device written. -/
theorem run_part32 (v2 : BitVec 32) (v562 : BitVec 32) (v583 : BitVec 32) (v854 : BitVec 32) {kk : _ → Prog (TpuEff nD τ sig (Elt F) Λ₀ .tc) PUnit}
    (hk : ∀ v878 v879, (St X κ Z c 24 16 12 7 4 7 : sProp 𝕄) ⊢ Runs c (kk ⟨v878, v879⟩) Q) :
    (St X κ Z c 24 16 12 6 4 6 : sProp 𝕄) ⊢ Runs c (onBuffers (k0_part32 (F := F)) c v2 v562 v583 v854 >>= kk) Q := by
  rw [k0_part32_eq_skeleton]
  simp only [onBuffers, k0_part32_skel, Prog.lift, Prog.bind_op, Prog.bind_ret, Prog.pure_eq_ret, bind_assoc, pure_bind, k0_pay45]
  refine sum_wait X (2, 0) rfl rfl rfl rfl ?_
  refine sum_load X (2, 0) rfl ?_
  simp only [piece_back]
  refine out_dead X _ fun _ => ?_
  refine out_other X (2, 0) rfl ((by decide +kernel : ∀ c, k0_off8 c 1#32 = ![128 * (back c 0).val, 256]) c) rfl ?_
  exact hk _ _

/-- Part 33 of the body: one sum received and one block of another device written. -/
theorem run_part33 (v2 : BitVec 32) (v541 : BitVec 32) (v878 : BitVec 32) (v879 : BitVec 32) {kk : _ → Prog (TpuEff nD τ sig (Elt F) Λ₀ .tc) PUnit}
    (hk : ∀ v902, (St X κ Z c 24 16 12 8 4 8 : sProp 𝕄) ⊢ Runs c (kk v902) Q) :
    (St X κ Z c 24 16 12 7 4 7 : sProp 𝕄) ⊢ Runs c (onBuffers (k0_part33 (F := F)) c v2 v541 v878 v879 >>= kk) Q := by
  rw [k0_part33_eq_skeleton]
  simp only [onBuffers, k0_part33_skel, Prog.lift, Prog.bind_op, Prog.bind_ret, Prog.pure_eq_ret, bind_assoc, pure_bind, k0_pay46]
  refine sum_wait X (2, 2) rfl rfl rfl rfl ?_
  refine sum_load X (2, 2) rfl ?_
  simp only [piece_back]
  refine out_dead X _ fun _ => ?_
  refine out_other X (2, 2) rfl ((by decide +kernel : ∀ c, k0_off8 c 3#32 = ![128 * (back c 2).val, 256]) c) rfl ?_
  exact hk _

/-- Part 34 of the body: two sums received and one block of another device written. -/
theorem run_part34 (v2 : BitVec 32) (v665 : BitVec 32) (v902 : BitVec 32) {kk : _ → Prog (TpuEff nD τ sig (Elt F) Λ₀ .tc) PUnit}
    (hk : ∀ v926, (St X κ Z c 24 16 12 10 4 9 : sProp 𝕄) ⊢ Runs c (kk v926) Q) :
    (St X κ Z c 24 16 12 8 4 8 : sProp 𝕄) ⊢ Runs c (onBuffers (k0_part34 (F := F)) c v2 v665 v902 >>= kk) Q := by
  rw [k0_part34_eq_skeleton]
  simp only [onBuffers, k0_part34_skel, Prog.lift, Prog.bind_op, Prog.bind_ret, Prog.pure_eq_ret, bind_assoc, pure_bind, k0_pay47]
  refine sum_wait X (2, 1) rfl rfl rfl rfl ?_
  refine sum_load X (2, 1) rfl ?_
  simp only [piece_back]
  refine out_dead X _ fun _ => ?_
  refine out_other X (2, 1) rfl ((by decide +kernel : ∀ c, k0_off8 c 2#32 = ![128 * (back c 1).val, 256]) c) rfl ?_
  refine sum_wait X (3, 0) rfl rfl rfl rfl ?_
  exact hk _

/-- Part 35 of the body: one sum received and one block of another device written. -/
theorem run_part35 (v2 : BitVec 32) (v686 : BitVec 32) (v926 : BitVec 32) {kk : _ → Prog (TpuEff nD τ sig (Elt F) Λ₀ .tc) PUnit}
    (hk : (St X κ Z c 24 16 12 11 4 10 : sProp 𝕄) ⊢ Runs c (kk (total X (back c 2) 3)) Q) :
    (St X κ Z c 24 16 12 10 4 9 : sProp 𝕄) ⊢ Runs c (onBuffers (k0_part35 (F := F)) c v2 v686 v926 >>= kk) Q := by
  rw [k0_part35_eq_skeleton]
  simp only [onBuffers, k0_part35_skel, Prog.lift, Prog.bind_op, Prog.bind_ret, Prog.pure_eq_ret, bind_assoc, pure_bind, k0_pay48, k0_pay49]
  refine sum_load X (3, 0) rfl ?_
  simp only [piece_back]
  refine out_dead X _ fun _ => ?_
  refine out_other X (3, 0) rfl ((by decide +kernel : ∀ c, k0_off9 c 1#32 = ![128 * (back c 0).val, 384]) c) rfl ?_
  refine sum_wait X (3, 2) rfl rfl rfl rfl ?_
  refine sum_load X (3, 2) rfl ?_
  simp only [piece_back]
  refine out_dead X _ fun _ => ?_
  exact hk

/-- Part 36 of the body: one sum received and two blocks of other devices written. -/
theorem run_part36 (v2 : BitVec 32) (v644 : BitVec 32) {kk : _ → Prog (TpuEff nD τ sig (Elt F) Λ₀ .tc) PUnit}
    (hk : (St X κ Z c 24 16 12 12 4 12 : sProp 𝕄) ⊢ Runs c (kk ⟨⟩) Q) :
    (St X κ Z c 24 16 12 11 4 10 : sProp 𝕄) ⊢ Runs c (onBuffers (k0_part36 (F := F)) c v2 v644 (total X (back c 2) 3) >>= kk) Q := by
  rw [k0_part36_eq_skeleton]
  simp only [onBuffers, k0_part36_skel, Prog.lift, Prog.bind_op, Prog.bind_ret, Prog.pure_eq_ret, bind_assoc, pure_bind, k0_pay50]
  refine out_other X (3, 2) rfl ((by decide +kernel : ∀ c, k0_off9 c 3#32 = ![128 * (back c 2).val, 384]) c) rfl ?_
  refine sum_wait X (3, 1) rfl rfl rfl rfl ?_
  refine sum_load X (3, 1) rfl ?_
  simp only [piece_back]
  refine out_dead X _ fun _ => ?_
  refine out_other X (3, 1) rfl ((by decide +kernel : ∀ c, k0_off9 c 2#32 = ![128 * (back c 1).val, 384]) c) rfl ?_
  exact hk

end Cert.KernelIdeal.Run
-- ==== Proof.PartsLeave.lean ====
/- Device `c` waits until what it sent has left. -/
module

public import proofs.«01_k».proof.Proof.Buffers

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)
variable {κ : GSem nD τ sig → ℕ} {c : Dev nD}
variable {Z : sProp (MT nD τ sig Unit (Elt F) ℕ UU ℕ)}
variable {Q : PUnit → sProp (MT nD τ sig Unit (Elt F) ℕ UU ℕ)}

/-- Part 37 of the body: waits until two more parts and one more sum have left. -/
theorem run_part37 {kk : _ → Prog (TpuEff nD τ sig (Elt F) Λ₀ .tc) PUnit}
    (hk : (Dep X κ Z c 2 1 : sProp 𝕄) ⊢ Runs c (kk ⟨⟩) Q) :
    (Dep X κ Z c 0 0 : sProp 𝕄) ⊢ Runs c (onBuffers (k0_part37 (F := F)) >>= kk) Q := by
  rw [k0_part37_eq_skeleton]
  simp only [onBuffers, k0_part37_skel, Prog.lift, Prog.bind_op, Prog.bind_ret, Prog.pure_eq_ret, bind_assoc, pure_bind]
  refine left_part X (0, 0) rfl rfl ?_
  refine left_sum X (0, 0) rfl rfl ?_
  refine left_part X (0, 1) rfl rfl ?_
  exact hk

/-- Part 38 of the body: waits until one more part and two more sums have left. -/
theorem run_part38 {kk : _ → Prog (TpuEff nD τ sig (Elt F) Λ₀ .tc) PUnit}
    (hk : (Dep X κ Z c 3 3 : sProp 𝕄) ⊢ Runs c (kk ⟨⟩) Q) :
    (Dep X κ Z c 2 1 : sProp 𝕄) ⊢ Runs c (onBuffers (k0_part38 (F := F)) >>= kk) Q := by
  rw [k0_part38_eq_skeleton]
  simp only [onBuffers, k0_part38_skel, Prog.lift, Prog.bind_op, Prog.bind_ret, Prog.pure_eq_ret, bind_assoc, pure_bind]
  refine left_sum X (0, 1) rfl rfl ?_
  refine left_part X (0, 2) rfl rfl ?_
  refine left_sum X (0, 2) rfl rfl ?_
  exact hk

/-- Part 39 of the body: waits until two more parts and one more sum have left. -/
theorem run_part39 {kk : _ → Prog (TpuEff nD τ sig (Elt F) Λ₀ .tc) PUnit}
    (hk : (Dep X κ Z c 5 4 : sProp 𝕄) ⊢ Runs c (kk ⟨⟩) Q) :
    (Dep X κ Z c 3 3 : sProp 𝕄) ⊢ Runs c (onBuffers (k0_part39 (F := F)) >>= kk) Q := by
  rw [k0_part39_eq_skeleton]
  simp only [onBuffers, k0_part39_skel, Prog.lift, Prog.bind_op, Prog.bind_ret, Prog.pure_eq_ret, bind_assoc, pure_bind]
  refine left_part X (1, 0) rfl rfl ?_
  refine left_sum X (1, 0) rfl rfl ?_
  refine left_part X (1, 1) rfl rfl ?_
  exact hk

/-- Part 40 of the body: waits until one more part and two more sums have left. -/
theorem run_part40 {kk : _ → Prog (TpuEff nD τ sig (Elt F) Λ₀ .tc) PUnit}
    (hk : (Dep X κ Z c 6 6 : sProp 𝕄) ⊢ Runs c (kk ⟨⟩) Q) :
    (Dep X κ Z c 5 4 : sProp 𝕄) ⊢ Runs c (onBuffers (k0_part40 (F := F)) >>= kk) Q := by
  rw [k0_part40_eq_skeleton]
  simp only [onBuffers, k0_part40_skel, Prog.lift, Prog.bind_op, Prog.bind_ret, Prog.pure_eq_ret, bind_assoc, pure_bind]
  refine left_sum X (1, 1) rfl rfl ?_
  refine left_part X (1, 2) rfl rfl ?_
  refine left_sum X (1, 2) rfl rfl ?_
  exact hk

/-- Part 41 of the body: waits until two more parts and one more sum have left. -/
theorem run_part41 {kk : _ → Prog (TpuEff nD τ sig (Elt F) Λ₀ .tc) PUnit}
    (hk : (Dep X κ Z c 8 7 : sProp 𝕄) ⊢ Runs c (kk ⟨⟩) Q) :
    (Dep X κ Z c 6 6 : sProp 𝕄) ⊢ Runs c (onBuffers (k0_part41 (F := F)) >>= kk) Q := by
  rw [k0_part41_eq_skeleton]
  simp only [onBuffers, k0_part41_skel, Prog.lift, Prog.bind_op, Prog.bind_ret, Prog.pure_eq_ret, bind_assoc, pure_bind]
  refine left_part X (2, 0) rfl rfl ?_
  refine left_sum X (2, 0) rfl rfl ?_
  refine left_part X (2, 1) rfl rfl ?_
  exact hk

/-- Part 42 of the body: waits until one more part and two more sums have left. -/
theorem run_part42 {kk : _ → Prog (TpuEff nD τ sig (Elt F) Λ₀ .tc) PUnit}
    (hk : (Dep X κ Z c 9 9 : sProp 𝕄) ⊢ Runs c (kk ⟨⟩) Q) :
    (Dep X κ Z c 8 7 : sProp 𝕄) ⊢ Runs c (onBuffers (k0_part42 (F := F)) >>= kk) Q := by
  rw [k0_part42_eq_skeleton]
  simp only [onBuffers, k0_part42_skel, Prog.lift, Prog.bind_op, Prog.bind_ret, Prog.pure_eq_ret, bind_assoc, pure_bind]
  refine left_sum X (2, 1) rfl rfl ?_
  refine left_part X (2, 2) rfl rfl ?_
  refine left_sum X (2, 2) rfl rfl ?_
  exact hk

/-- Part 43 of the body: waits until two more parts and one more sum have left. -/
theorem run_part43 {kk : _ → Prog (TpuEff nD τ sig (Elt F) Λ₀ .tc) PUnit}
    (hk : (Dep X κ Z c 11 10 : sProp 𝕄) ⊢ Runs c (kk ⟨⟩) Q) :
    (Dep X κ Z c 9 9 : sProp 𝕄) ⊢ Runs c (onBuffers (k0_part43 (F := F)) >>= kk) Q := by
  rw [k0_part43_eq_skeleton]
  simp only [onBuffers, k0_part43_skel, Prog.lift, Prog.bind_op, Prog.bind_ret, Prog.pure_eq_ret, bind_assoc, pure_bind]
  refine left_part X (3, 0) rfl rfl ?_
  refine left_sum X (3, 0) rfl rfl ?_
  refine left_part X (3, 1) rfl rfl ?_
  exact hk

end Cert.KernelIdeal.Run
-- ==== Proof.Chain.lean ====
/- The kernel's body, its pieces put together: from before the first signal to after the last wait. -/
module

public import proofs.«01_k».proof.Proof.Start
public import proofs.«01_k».proof.Proof.PartsSend
public import proofs.«01_k».proof.Proof.PartsSum
public import proofs.«01_k».proof.Proof.PartsGather
public import proofs.«01_k».proof.Proof.PartsLeave

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)
variable {κ : GSem nD τ sig → ℕ} {c : Dev nD}
variable {Z : sProp (MT nD τ sig Unit (Elt F) ℕ UU ℕ)}
variable {Q : PUnit → sProp (MT nD τ sig Unit (Elt F) ℕ UU ℕ)}

/-- What the body does not touch once the barrier is passed. -/
def aside (Z : sProp 𝕄) (c : Dev nD) : sProp 𝕄 := iprop(atPos ER (barCell c) 1 ∅ 0 ∗ idsAt X c ∗ tabAt X c ∗ Z)

/-- What is in hand, beside the semaphores still to be waited on, when everything is received and stored. -/
def haul (Z : sProp 𝕄) (c : Dev nD) : sProp 𝕄 :=
  iprop(fam (waited X 1 c) 1 rankR 12 ∗ fam (waited X 3 c) 1 rankR 12 ∗ outAt X c 4 12 ∗ extAt X c ∗ aside X Z c)

/-- All the pieces but the last two waits. -/
theorem run_part44 {kk : PUnit → Prog (TpuEff nD τ sig (Elt F) Λ₀ .tc) PUnit}
    (hk : (Dep X κ (haul X Z c) c 11 11 : sProp 𝕄) ⊢ Runs c (kk ⟨⟩) Q) :
    (Open X κ iprop(atLeft c 0 ∗ atLeft c 2 ∗ Z) c : sProp 𝕄) ⊢ Runs c (onBuffers (k0_part44 (F := F)) >>= kk) Q := by
  rw [k0_part44_eq_skeleton]
  simp only [onBuffers, k0_part44_skel, bind_assoc]
  refine run_part1 X fun _ _ _ => ?_
  refine run_part2 X _ _ _ ?_
  iintro H
  ihave H := (show (St X κ iprop(atPos ER (barCell c) 1 ∅ 0 ∗ idsAt X c ∗ tabAt X c ∗ atLeft c 0 ∗ atLeft c 2 ∗ Z) c 0 0 0 0 0 0 : sProp 𝕄)
    ⊢ St X κ iprop(atLeft c 0 ∗ atLeft c 2 ∗ aside X Z c) c 0 0 0 0 0 0 from by
      unfold St aside
      iintro ⟨#HP, HS, HG, HA, HB, HO, HU, HX, HZ1, HZ2, HZ3, HZ4, HZ5, HZ6⟩
      isplitr; · iexact HP
      isplitl [HS]; · iexact HS
      isplitl [HG]; · iexact HG
      isplitl [HA]; · iexact HA
      isplitl [HB]; · iexact HB
      isplitl [HO]; · iexact HO
      isplitl [HU]; · iexact HU
      isplitl [HX]; · iexact HX
      isplitl [HZ4]; · iexact HZ4
      isplitl [HZ5]; · iexact HZ5
      isplitl [HZ1]; · iexact HZ1
      isplitl [HZ2]; · iexact HZ2
      isplitl [HZ3]; · iexact HZ3
      iexact HZ6) $$ H
  istop
  refine run_part3 X _ fun _ => ?_
  refine run_part4 X _ ?_
  refine run_part5 X _ _ fun _ => ?_
  refine run_part6 X _ ?_
  refine run_part7 X _ fun _ => ?_
  refine run_part8 X _ _ _ fun _ => ?_
  refine run_part9 X _ ?_
  refine run_part10 X _ ?_
  refine run_part11 X _ _ ?_
  refine run_part12 X _ _ fun _ _ _ _ _ => ?_
  refine run_part13 X _ _ _ _ _ _ fun _ _ => ?_
  refine run_part14 X _ fun _ => ?_
  refine run_part15 X _ _ ?_
  refine run_part16 X _ _ fun _ => ?_
  refine run_part17 X _ _ fun _ => ?_
  refine run_part18 X _ _ fun _ _ => ?_
  refine run_part19 X _ _ _ fun _ => ?_
  refine run_part20 X _ _ fun _ => ?_
  refine run_part21 X _ fun _ _ _ _ => ?_
  refine run_part22 X _ _ _ _ _ fun _ => ?_
  refine run_part23 X _ _ ?_
  refine run_part24 X _ fun _ _ => ?_
  refine run_part25 X _ _ fun _ _ => ?_
  refine run_part26 X _ _ _ fun _ => ?_
  refine run_part27 X _ _ _ fun _ => ?_
  refine run_part28 X _ _ _ fun _ _ => ?_
  refine run_part29 X _ _ _ _ fun _ _ => ?_
  refine run_part30 X _ _ _ _ fun _ _ _ _ => ?_
  refine run_part31 X _ _ _ _ _ _ fun _ => ?_
  refine run_part32 X _ _ _ _ fun _ _ => ?_
  refine run_part33 X _ _ _ _ fun _ => ?_
  refine run_part34 X _ _ _ fun _ => ?_
  refine run_part35 X _ _ _ ?_
  refine run_part36 X _ _ ?_
  refine (St_Dep X).trans ?_
  refine run_part37 X ?_
  refine run_part38 X ?_
  refine run_part39 X ?_
  refine run_part40 X ?_
  refine run_part41 X ?_
  refine run_part42 X ?_
  refine run_part43 X ?_
  simp only [Prog.lift, Prog.bind_op, Prog.bind_ret, Prog.pure_eq_ret]
  refine left_sum X (3, 1) rfl rfl ?_
  exact hk

/-- The whole body. -/
theorem run_all (hk : (Dep X κ (haul X Z c) c 12 12 : sProp 𝕄) ⊢ iprop(|={Set.univ}=> Q ⟨⟩)) :
    (Open X κ iprop(atLeft c 0 ∗ atLeft c 2 ∗ Z) c : sProp 𝕄) ⊢ Runs c (onBuffers (cc0_body (F := F))) Q := by
  rw [cc0_body_eq_skeleton]
  simp only [onBuffers, cc0_body_skel]
  refine run_part44 X ?_
  simp only [Prog.lift, Prog.bind_op, Prog.bind_ret, Prog.pure_eq_ret]
  refine left_part X (3, 2) rfl rfl ?_
  refine left_sum X (3, 2) rfl rfl ?_
  unfold Runs
  rw [wp_ret]
  exact hk

end Cert.KernelIdeal.Run
-- ==== Proof.Pieces.lean ====
/- Whole buffers as their pieces, and the result's blocks as one array. -/
module

public import proofs.«01_k».proof.Proof.Chain

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)

/-! ## The pieces partition the buffers -/

/-- The places of a lane's block: the first two coordinates are the lane. -/
theorem mem_rect4 (i : Lane) (x : S4x3x128x128.Idx) : x ∈ (rect4 i).set ↔ (x 0).val = i.1.val ∧ (x 1).val = i.2.val := by
  have h2 : (x 2).val < 128 := (x 2).isLt
  have h3 : (x 3).val < 128 := (x 3).isLt
  refine Iff.trans Rect.mem_set_unit ?_
  constructor
  · intro H
    have a : i.1.val ≤ (x 0).val ∧ (x 0).val < i.1.val + 1 := H 0
    have b : i.2.val ≤ (x 1).val ∧ (x 1).val < i.2.val + 1 := H 1
    omega
  · rintro ⟨a, b⟩ d
    fin_cases d
    · show i.1.val ≤ (x 0).val ∧ (x 0).val < i.1.val + 1; omega
    · show i.2.val ≤ (x 1).val ∧ (x 1).val < i.2.val + 1; omega
    · show 0 ≤ (x 2).val ∧ (x 2).val < 0 + 128; omega
    · show 0 ≤ (x 3).val ∧ (x 3).val < 0 + 128; omega

/-- The places of a piece's block: the first coordinate is the piece. -/
theorem mem_rect3 (h : Fin 4) (x : S4x128x128.Idx) : x ∈ (rect3 h).set ↔ (x 0).val = h.val := by
  have h2 : (x 1).val < 128 := (x 1).isLt
  have h3 : (x 2).val < 128 := (x 2).isLt
  refine Iff.trans Rect.mem_set_unit ?_
  constructor
  · intro H
    have a : h.val ≤ (x 0).val ∧ (x 0).val < h.val + 1 := H 0
    omega
  · rintro a d
    fin_cases d
    · show h.val ≤ (x 0).val ∧ (x 0).val < h.val + 1; omega
    · show 0 ≤ (x 1).val ∧ (x 1).val < 0 + 128; omega
    · show 0 ≤ (x 2).val ∧ (x 2).val < 0 + 128; omega

/-- A twelve-lane buffer's lanes do not overlap. -/
theorem disjoint4 : ∀ i i' : Lane, i ≠ i' → Disjoint (rect4 i).set (rect4 i').set := fun i i' hne =>
  Finset.disjoint_left.mpr fun x h h' => by
    have a := (mem_rect4 i x).mp h
    have b := (mem_rect4 i' x).mp h'
    exact hne (Prod.ext (Fin.ext (a.1.symm.trans b.1)) (Fin.ext (a.2.symm.trans b.2)))
/-- The lanes make up the buffer. -/
theorem cover4 : (Finset.univ : Finset Lane).biUnion (fun i => (rect4 i).set) = Finset.univ :=
  Finset.eq_univ_iff_forall.mpr fun x => Finset.mem_biUnion.mpr
    ⟨((⟨(x 0).val, (x 0).isLt⟩ : Fin 4), (⟨(x 1).val, (x 1).isLt⟩ : Fin 3)), Finset.mem_univ _, (mem_rect4 _ x).mpr ⟨rfl, rfl⟩⟩

/-- A four-piece buffer's pieces do not overlap. -/
theorem disjoint3 : ∀ h h' : Fin 4, h ≠ h' → Disjoint (rect3 h).set (rect3 h').set := fun h h' hne =>
  Finset.disjoint_left.mpr fun x hx hx' => hne (Fin.ext (((mem_rect3 h x).mp hx).symm.trans ((mem_rect3 h' x).mp hx')))
/-- The pieces make up the buffer. -/
theorem cover3 : (Finset.univ : Finset (Fin 4)).biUnion (fun h => (rect3 h).set) = Finset.univ :=
  Finset.eq_univ_iff_forall.mpr fun x => Finset.mem_biUnion.mpr ⟨(⟨(x 0).val, (x 0).isLt⟩ : Fin 4), Finset.mem_univ _, (mem_rect3 _ x).mpr rfl⟩

/-- A whole buffer, whatever it holds. -/
def wholeAny {s : Shape} (M : Memref sig .tc .vmem s .bf16) (c : Dev nD) : sProp 𝕄 :=
  iprop(∃ f : Buf (Elt F) (M.view.loc (c : Thread nD τ)), M.view.loc (c : Thread nD τ) ↦[Finset.univ]{fullShare} f)

/-- A family of pieces that partition a buffer, together, is the buffer. -/
theorem split_pieces {s : Shape} (M : Memref sig .tc .vmem s .bf16) (hM : M.view.set = Finset.univ) {B : Type} [Fintype B] [DecidableEq B]
    (R : B → Rect s) (hd : ∀ i i', i ≠ i' → Disjoint (R i).set (R i').set) (hc : Finset.univ.biUnion (fun i => (R i).set) = Finset.univ) (c : Dev nD) :
    (wholeAny M c : sProp 𝕄) ⊢ bigSep Finset.univ fun i => iprop(∃ f : Buf (Elt F) (M.view.loc (c : Thread nD τ)),
      M.view.loc (c : Thread nD τ) ↦[((R i).set.map M.view.emb : Finset (Idx (M.view.loc (c : Thread nD τ))))]{fullShare} f) := by
  have hd' : ∀ i i', i ≠ i' → Disjoint ((R i).set.map M.view.emb) ((R i').set.map M.view.emb) := fun i i' h =>
    (Finset.disjoint_map _).mpr (hd i i' h)
  have hc' : Finset.univ.biUnion (fun i => (R i).set.map M.view.emb) = Finset.univ := by
    refine Finset.eq_univ_iff_forall.mpr fun x => ?_
    have hx : x ∈ M.view.set := hM ▸ Finset.mem_univ x
    obtain ⟨y, -, rfl⟩ := Finset.mem_map.mp hx
    obtain ⟨i, hi, hy⟩ := Finset.mem_biUnion.mp (hc ▸ Finset.mem_univ y)
    exact Finset.mem_biUnion.mpr ⟨i, hi, Finset.mem_map_of_mem _ hy⟩
  unfold wholeAny
  iintro ⟨%f, H⟩
  ihave H := (Entails.of_eq (Ring.pointsTo_blocks (ℓ := M.view.loc (c : Thread nD τ)) (fun i => (R i).set.map M.view.emb) hd' hc' (q := fullShare) f)) $$ H
  iapply (show (bigSep Finset.univ fun i => (M.view.loc (c : Thread nD τ) ↦[((R i).set.map M.view.emb : Finset (Idx (M.view.loc (c : Thread nD τ))))]{fullShare} f : sProp 𝕄))
    ⊢ bigSep Finset.univ fun i => iprop(∃ f : Buf (Elt F) (M.view.loc (c : Thread nD τ)),
      M.view.loc (c : Thread nD τ) ↦[((R i).set.map M.view.emb : Finset (Idx (M.view.loc (c : Thread nD τ))))]{fullShare} f) from
    bigSep_mono fun i _ => by
      show (_ : sProp 𝕄) ⊢ _
      iintro H; iexists f; iexact H)
  iexact H

/-- Pieces that do not overlap and make up a buffer, whatever they hold, join to the whole buffer. -/
theorem join_pieces {s : Shape} (M : Memref sig .tc .vmem s .bf16) (hM : M.view.set = Finset.univ) {B : Type} [Fintype B] [DecidableEq B]
    (R : B → Rect s) (hd : ∀ i i', i ≠ i' → Disjoint (R i).set (R i').set) (hc : Finset.univ.biUnion (fun i => (R i).set) = Finset.univ) (c : Dev nD)
    (f₀ : Buf (Elt F) (M.view.loc (c : Thread nD τ))) :
    (bigSep Finset.univ fun i => iprop(∃ f : Buf (Elt F) (M.view.loc (c : Thread nD τ)),
      M.view.loc (c : Thread nD τ) ↦[((R i).set.map M.view.emb : Finset (Idx (M.view.loc (c : Thread nD τ))))]{fullShare} f)) ⊢ (wholeAny M c : sProp 𝕄) := by
  have hd' : ∀ i i', i ≠ i' → Disjoint ((R i).set.map M.view.emb) ((R i').set.map M.view.emb) := fun i i' h =>
    (Finset.disjoint_map _).mpr (hd i i' h)
  have hc' : Finset.univ.biUnion (fun i => (R i).set.map M.view.emb) = Finset.univ := by
    refine Finset.eq_univ_iff_forall.mpr fun x => ?_
    have hx : x ∈ M.view.set := hM ▸ Finset.mem_univ x
    obtain ⟨y, -, rfl⟩ := Finset.mem_map.mp hx
    obtain ⟨i, hi, hy⟩ := Finset.mem_biUnion.mp (hc ▸ Finset.mem_univ y)
    exact Finset.mem_biUnion.mpr ⟨i, hi, Finset.mem_map_of_mem _ hy⟩
  exact Ring.pointsTo_blocks_join_exists (ℓ := M.view.loc (c : Thread nD τ)) (fun i => (R i).set.map M.view.emb) hd' hc' (q := fullShare) f₀

/-- The places of a lane's tile, in the buffer's own coordinates. -/
theorem set_lane (M : Memref sig .tc .vmem S4x3x128x128 .bf16) (i : Lane) : (tile4 M i).view.set = (rect4 i).set.map M.view.emb :=
  (set_tile4 M i).trans (View.set_slice _ _)
/-- The places of a piece's tile, in the buffer's own coordinates. -/
theorem set_piece (M : Memref sig .tc .vmem S4x128x128 .bf16) (h : Fin 4) : (tile3 M h).view.set = (rect3 h).set.map M.view.emb :=
  (set_tile3 M h).trans (View.set_slice _ _)

/-- To hold a lane's tile is to hold its places of the buffer. -/
theorem anyOf_lane (M : Memref sig .tc .vmem S4x3x128x128 .bf16) (i : Lane) (c : Dev nD) : (anyOf (tile4 M i) c : sProp 𝕄)
    = iprop(∃ f : Buf (Elt F) (M.view.loc (c : Thread nD τ)),
      M.view.loc (c : Thread nD τ) ↦[((rect4 i).set.map M.view.emb : Finset (Idx (M.view.loc (c : Thread nD τ))))]{fullShare} f) := by
  unfold anyOf
  rw [set_lane]
/-- To hold a piece's tile is to hold its places of the buffer. -/
theorem anyOf_piece (M : Memref sig .tc .vmem S4x128x128 .bf16) (h : Fin 4) (c : Dev nD) : (anyOf (tile3 M h) c : sProp 𝕄)
    = iprop(∃ f : Buf (Elt F) (M.view.loc (c : Thread nD τ)),
      M.view.loc (c : Thread nD τ) ↦[((rect3 h).set.map M.view.emb : Finset (Idx (M.view.loc (c : Thread nD τ))))]{fullShare} f) := by
  unfold anyOf
  rw [set_piece]

/-- A twelve-lane buffer falls into its lanes, -/
theorem to_lanes (M : Memref sig .tc .vmem S4x3x128x128 .bf16) (hM : M.view.set = Finset.univ) (c : Dev nD) :
    (wholeAny M c : sProp 𝕄) ⊢ bigSep Finset.univ fun i : Lane => anyOf (tile4 M i) c := by
  rw [bigSep_congr fun i _ => anyOf_lane M i c]
  exact split_pieces M hM rect4 disjoint4 cover4 c
/-- and is made of them again. -/
theorem of_lanes (M : Memref sig .tc .vmem S4x3x128x128 .bf16) (hM : M.view.set = Finset.univ) (c : Dev nD) (f₀ : Buf (Elt F) (M.view.loc (c : Thread nD τ))) :
    (bigSep Finset.univ fun i : Lane => anyOf (tile4 M i) c) ⊢ (wholeAny M c : sProp 𝕄) := by
  rw [bigSep_congr fun i _ => anyOf_lane M i c]
  exact join_pieces M hM rect4 disjoint4 cover4 c f₀
/-- A four-piece buffer falls into its pieces, -/
theorem to_four (M : Memref sig .tc .vmem S4x128x128 .bf16) (hM : M.view.set = Finset.univ) (c : Dev nD) :
    (wholeAny M c : sProp 𝕄) ⊢ bigSep Finset.univ fun h : Fin 4 => anyOf (tile3 M h) c := by
  rw [bigSep_congr fun h _ => anyOf_piece M h c]
  exact split_pieces M hM rect3 disjoint3 cover3 c
/-- and is made of them again. -/
theorem of_four (M : Memref sig .tc .vmem S4x128x128 .bf16) (hM : M.view.set = Finset.univ) (c : Dev nD) (f₀ : Buf (Elt F) (M.view.loc (c : Thread nD τ))) :
    (bigSep Finset.univ fun h : Fin 4 => anyOf (tile3 M h) c) ⊢ (wholeAny M c : sProp 𝕄) := by
  rw [bigSep_congr fun h _ => anyOf_piece M h c]
  exact join_pieces M hM rect3 disjoint3 cover3 c f₀

/-! ## The result as one array -/

/-- The result every device computes: rows of device `j` are device `j`'s sums. -/
def result : Vec F S512x512 .bf16 := fun x =>
  total X ⟨(x 0).val / 128, by have h : (x 0).val < 512 := (x 0).isLt; show _ < 4; omega⟩ ⟨(x 1).val / 128, by have h : (x 1).val < 512 := (x 1).isLt; omega⟩
    fun a => ⟨(x (Fin.cast rfl a)).val % 128, by show _ < (![128, 128] : Fin 2 → ℕ) a; fin_cases a <;> exact Nat.mod_lt _ (by decide)⟩

/-- After the four own and twelve other blocks every block of the result is written. -/
theorem done_all : ∀ (c j : Dev nD) (h : Fin 4), done c 4 12 j h := by
  intro c j h
  unfold done
  revert c j h
  decide

/-- When every block holds its sum the buffer holds the result. -/
theorem good_result (c : Dev nD) (f : Vec F S512x512 .bf16) (hf : good X c 4 12 f) : f = result X := by
  funext x
  have h0 : (x 0).val < 512 := (x 0).isLt
  have h1 : (x 1).val < 512 := (x 1).isLt
  let j : Dev nD := ⟨(x 0).val / 128, by show _ < 4; omega⟩
  let h : Fin 4 := ⟨(x 1).val / 128, by omega⟩
  let y : S128x128.Idx := fun a => ⟨(x (Fin.cast rfl a)).val % 128, by show _ < (![128, 128] : Fin 2 → ℕ) a; fin_cases a <;> exact Nat.mod_lt _ (by decide)⟩
  have e := congrFun (hf j h (done_all c j h)) y
  have hx : (outM.access (rectO j h)).emb y = x := by
    funext a
    refine Fin.ext ?_
    show ((![128 * j.val, 128 * h.val] : Fin 2 → ℕ) a) + 1 * (y a).val = (x a).val
    fin_cases a
    · show 128 * ((x 0).val / 128) + 1 * ((x 0).val % 128) = (x 0).val; omega
    · show 128 * ((x 1).val / 128) + 1 * ((x 1).val % 128) = (x 1).val; omega
  have e' : f ((outM.access (rectO j h)).emb y) = total X j h y := e
  rw [hx] at e'
  exact e'

end Cert.KernelIdeal.Run
-- ==== Proof.Edges.lean ====
/- The two ends of a device's run: what it starts from opened and sorted, and what it ends with closed and put together. -/
module

public import proofs.«01_k».proof.Proof.Pieces

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)
variable {κ : GSem nD τ sig → ℕ} {c : Dev nD}
variable {Z : sProp (MT nD τ sig Unit (Elt F) ℕ UU ℕ)}

/-! ## Regrouping -/

/-- A family over a device's lane semaphores, role by role. -/
theorem by_role (Φ : Fin 4 × Lane → sProp 𝕄) : bigSep Finset.univ Φ
    = iprop((bigSep Finset.univ fun i : Lane => Φ (0, i)) ∗ (bigSep Finset.univ fun i : Lane => Φ (1, i))
      ∗ (bigSep Finset.univ fun i : Lane => Φ (2, i)) ∗ (bigSep Finset.univ fun i : Lane => Φ (3, i))) := by
  rw [bigSep_univ_prod, show (Finset.univ : Finset (Fin 4)) = {0, 1, 2, 3} by decide, bigSep_insert (by decide), bigSep_insert (by decide),
    bigSep_insert (by decide), bigSep_singleton]
  rfl

/-- A family over the lanes, offset by offset, the farthest first. -/
theorem by_offset (Φ : Lane → sProp 𝕄) : bigSep Finset.univ Φ
    = bigSep Finset.univ fun e : Fin 3 => bigSep Finset.univ fun h : Fin 4 => Φ (h, e.rev) := by
  rw [bigSep_univ_equiv (Equiv.prodComm (Fin 3) (Fin 4)) Φ, bigSep_univ_prod, bigSep_univ_equiv Fin.revPerm]
  rfl

/-- What the signal to the device `e + 1` places on brings is a part of the signaller's own landing buffers. -/
theorem ready_own (c : Dev nD) (e : Fin 3) : (ready (peer c e) e.rev : sProp 𝕄) = bigSep Finset.univ fun h : Fin 4 => iprop(
    (anyOf (tile4 recvM (h, e.rev)) c ∗ reached ER (cell 1 c (h, e.rev)) 0) ∗ (anyOf (tile4 gathM (h, e.rev)) c ∗ reached ER (cell 3 c (h, e.rev)) 0)) := by
  unfold ready
  rw [peer_rev]

/-! ## What a device is given at launch -/

/-- The rights to signal the three others. -/
def bars (c : Dev nD) : sProp 𝕄 :=
  bigSep Finset.univ fun e : Fin 3 => iprop(dutyTok ER (barCell (peer c e)) 0 e.rev ∗ reached ER (barCell (peer c e)) 0)
/-- The rights to count up the semaphores of the lanes. -/
def toks (c : Dev nD) : sProp 𝕄 :=
  bigSep Finset.univ fun i : Lane => iprop((dutyTok ER (cell 0 c i) 0 0 ∗ dutyTok ER (cell 2 c i) 0 0) ∗ (dutyTok ER (far 1 c i) 0 0 ∗ dutyTok ER (far 3 c i) 0 0))
/-- What is owed to the device on its lanes. -/
def dues (c : Dev nD) : sProp 𝕄 :=
  bigSep Finset.univ fun i : Lane => iprop(cred (tallyAt (cell 1 c i) () N) ∗ cred (tallyAt (cell 3 c i) () N))
/-- The lane semaphores, open and at the beginning. -/
def fresh (c : Dev nD) : sProp 𝕄 :=
  bigSep Finset.univ fun k : Fin 4 × Lane => iprop(atPos ER (cell k.1 c k.2) 0 ∅ 0 ∗ reached ER (cell k.1 c k.2) 0)
/-- The lane semaphores, not yet opened. -/
def sealed (c : Dev nD) : sProp 𝕄 := bigSep Finset.univ fun k : Fin 4 × Lane => openTok ER (cell k.1 c k.2)
/-- The lane semaphores at zero. -/
def quiet (c : Dev nD) : sProp 𝕄 := bigSep Finset.univ fun k : Fin 4 × Lane => semVal (cell k.1 c k.2) 0
/-- The five buffers of the body, whatever they hold. -/
def scratch (c : Dev nD) : sProp 𝕄 :=
  iprop(extAny c ∗ wholeAny sendM c ∗ wholeAny recvM c ∗ wholeAny sumM c ∗ wholeAny gathM c)
/-- The rights of a device beside its lane semaphores. -/
def means (c : Dev nD) : sProp 𝕄 := iprop(gate c ∗ bars c ∗ toks c ∗ dues c)
/-- The invariants on the semaphores. -/
def invs (κ : GSem nD τ sig → ℕ) : sProp 𝕄 :=
  iprop((bigSep Finset.univ fun c : Dev nD => cellInv ER (rd X) (κ (barCell c)) (barCell c))
    ∗ (bigSep Finset.univ fun p : Dev nD × Fin 4 × Lane => cellInv ER (rd X) (κ (cell p.2.1 p.1 p.2.2)) (cell p.2.1 p.1 p.2.2)))

/-- The invariants may be consulted again and again. -/
instance invs_persistent (κ : GSem nD τ sig → ℕ) : Persistent (invs X κ : sProp 𝕄) := by unfold invs; infer_instance

/-- The invariants and the order of the waits are what every step consults. -/
theorem pers_of : iprop(invs X κ ∗ levAts L lv) ⊢ (pers X κ : sProp 𝕄) := by
  unfold invs pers
  iintro ⟨⟨HA, HB⟩, HL⟩
  isplitl [HA]; · iexact HA
  isplitl [HB] <;> iassumption

/-! ## Opening and closing the lane semaphores -/

/-- The lane semaphores, at zero, are opened. -/
theorem open_lanes : iprop(pers X κ ∗ sealed c ∗ quiet c) ⊢ (|={Set.univ}=> fresh c : sProp 𝕄) := by
  have h (k : Fin 4 × Lane) : iprop(pers X κ ∗ (openTok ER (cell k.1 c k.2) ∗ semVal (cell k.1 c k.2) 0))
      ⊢ (|={Set.univ}=> iprop(atPos ER (cell k.1 c k.2) 0 ∅ 0 ∗ reached ER (cell k.1 c k.2) 0) : sProp 𝕄) := by
    iintro ⟨#HP, HT, HV⟩
    iapply (Rounds.cell_open ER (rd X) (g := cell k.1 c k.2) (Set.mem_univ (κ (cell k.1 c k.2))))
    isplitr; · iapply (pers_cell X κ k.1 c k.2); iexact HP
    isplitl [HT] <;> iassumption
  unfold sealed quiet fresh
  rw [← bigSep_sep']
  exact (bigSep_with_persistent fun k _ => h k).trans (bigSep_fupd _ _)

/-- A lane semaphore waited for once is closed at zero. -/
theorem close_lane (r : Fin 4) (i : Lane) : iprop(pers X κ ∗ atPos ER (cell r c i) 1 ∅ 0) ⊢ (|={Set.univ}=> semVal (cell r c i) 0 : sProp 𝕄) := by
  iintro ⟨#HP, HA⟩
  iapply (Rounds.cell_close ER (rd X) (g := cell r c i) (Set.mem_univ (κ (cell r c i))) id (duties_later X (cell r c i)))
  isplitr; · iapply (pers_cell X κ r c i); iexact HP
  iexact HA

/-- The lane semaphores of one role are closed at zero. -/
theorem close_role (r : Fin 4) : iprop(pers X κ ∗ bigSep Finset.univ fun i : Lane => atPos ER (cell r c i) 1 ∅ 0)
    ⊢ (|={Set.univ}=> bigSep Finset.univ fun i : Lane => semVal (cell r c i) 0 : sProp 𝕄) :=
  (bigSep_with_persistent fun i _ => close_lane X r i).trans (bigSep_fupd _ _)

/-- The barrier semaphore is closed at zero. -/
theorem close_bar : iprop(pers X κ ∗ atPos ER (barCell c) 1 ∅ 0) ⊢ (|={Set.univ}=> semVal (barCell c) 0 : sProp 𝕄) := by
  iintro ⟨#HP, HA⟩
  iapply (Rounds.cell_close ER (rd X) (g := barCell c) (Set.mem_univ (κ (barCell c))) id (duties_later X (barCell c)))
  isplitr; · iapply (pers_bar X κ c); iexact HP
  iexact HA

/-! ## Starting -/

/-- The rights to signal and the landing buffers make the three bids. -/
theorem bids_of : iprop(bars c ∗ (bigSep Finset.univ fun i : Lane => iprop(
      (anyOf (tile4 recvM i) c ∗ reached ER (cell 1 c i) 0) ∗ (anyOf (tile4 gathM i) c ∗ reached ER (cell 3 c i) 0))))
    ⊢ (iprop(bid c 0 ∗ bid c 1 ∗ bid c 2) : sProp 𝕄) := by
  rw [by_offset]
  unfold bars
  rw [← bigSep_sep', bigSep_three]
  unfold bid
  rw [ready_own, ready_own, ready_own]
  iintro ⟨⟨⟨A1, B1⟩, C1⟩, ⟨⟨A0, B0⟩, C0⟩, ⟨⟨A2, B2⟩, C2⟩⟩
  isplitl [A0 B0 C0]
  · isplitl [A0]; · iexact A0
    isplitl [B0]; · iexact B0
    iexact C0
  isplitl [A1 B1 C1]
  · isplitl [A1]; · iexact A1
    isplitl [B1]; · iexact B1
    iexact C1
  isplitl [A2]; · iexact A2
  isplitl [B2]; · iexact B2
  iexact C2

/-- The result's buffer at the beginning. -/
theorem good_none (f : Vec F S512x512 .bf16) : good X c 0 0 f := by
  intro j h hd
  exfalso
  unfold done at hd
  rcases hd with ⟨-, hd⟩ | ⟨e, -, hd⟩ <;> omega

/-- From the launch's gifts and the buffers to the state the body starts from. -/
theorem enter : iprop(pers X κ ∗ fresh c ∗ means c ∗ scratch c ∗ idsAt X c ∗ tabAt X c
      ∗ (∃ f : Buf (Elt F) (outM.view.loc (c : Thread nD τ)), outM.view.loc (c : Thread nD τ) ↦[Finset.univ]{fullShare} f) ∗ owing c (owed₀ c) ∗ Z)
    ⊢ (Open X κ iprop(atLeft c 0 ∗ atLeft c 2 ∗ Z) c : sProp 𝕄) := by
  unfold fresh means scratch toks dues
  rw [by_role]
  simp only [bigSep_sep']
  iintro ⟨HP, ⟨⟨A0, #R0⟩, ⟨A1, #R1⟩, ⟨A2, #R2⟩, ⟨A3, #R3⟩⟩, ⟨HG, HB, ⟨⟨T0, T2⟩, ⟨T1, T3⟩⟩, ⟨D1, D3⟩⟩, ⟨HE, HS, HR, HU, HV⟩, HI, HT, ⟨%f, HO⟩, HW, HZ⟩
  ihave HS := (to_lanes sendM (View.set_whole _) c) $$ HS
  ihave HR := (to_lanes recvM (View.set_whole _) c) $$ HR
  ihave HU := (to_four sumM (View.set_whole _) c) $$ HU
  ihave HV := (to_lanes gathM (View.set_whole _) c) $$ HV
  unfold Open
  isplitl [HP]; · iexact HP
  isplitl [HB HR HV]
  · iapply bids_of
    isplitl [HB]; · iexact HB
    simp only [bigSep_sep']
    isplitl [HR]
    · isplitl [HR]; · iexact HR
      iexact R1
    isplitl [HV]; · iexact HV
    iexact R3
  isplitl [HG]; · iexact HG
  isplitl [HW]; · iexact HW
  isplitl [HI]; · iexact HI
  isplitl [HT]; · iexact HT
  isplitl [HE]; · iexact HE
  isplitl [HS HU T0 T1 T2 T3 D1 D3 A1 A3 HO]
  · unfold gear grants
    simp only [waited_zero, bigSep_sep']
    isplitl [HS]; · iexact HS
    isplitl [HU]; · iexact HU
    isplitl [T0 T1]
    · isplitl [T0]
      · isplitl [T0]; · iexact T0
        iexact R0
      iexact T1
    isplitl [T2 T3]
    · isplitl [T2]
      · isplitl [T2]; · iexact T2
        iexact R2
      iexact T3
    isplitl [D1 A1]
    · isplitl [D1] <;> iassumption
    isplitl [D3 A3]
    · isplitl [D3] <;> iassumption
    unfold outAt
    iexists f
    isplitr; · ipureintro; exact good_none X f
    iexact HO
  unfold atLeft
  isplitl [A0]; · iexact A0
  isplitl [A2]; · iexact A2
  iexact HZ

/-! ## Ending -/

/-- There are twelve waits for what has left, of either kind. -/
theorem rankW_lt : ∀ i : Lane, rankW i < 12 := by decide
/-- There are twelve waits for what arrives, of either kind. -/
theorem rankR_lt : ∀ i : Lane, rankR i < 12 := by decide

/-- When all of a role's waits are done, every lane has brought what it brings. -/
theorem fam_all (r : Fin 4) (rk : Lane → ℕ) (hrk : ∀ i, rk i < 12) : (fam (waited X r c) 1 rk 12 : sProp 𝕄)
    = iprop((bigSep Finset.univ fun i : Lane => brings X c r i) ∗ bigSep Finset.univ fun i : Lane => atPos ER (cell r c i) 1 ∅ 0) := by
  unfold fam
  rw [← bigSep_sep']
  refine bigSep_congr fun i _ => ?_
  have := hrk i
  rw [waited_sat X r c i (12 - 1 * rk i) (by omega)]
  rfl

/-- Some contents of a buffer of numbers. -/
def someOf (s : Shape) : Vec F s .bf16 := fun _ => total X 0 0 fun a => ⟨0, by show 0 < (![128, 128] : Fin 2 → ℕ) a; fin_cases a <;> decide⟩

/-- When all parts have left, the buffer they were sent from is whole again. -/
theorem whole_send : (bigSep Finset.univ fun i : Lane => brings X c 0 i) ⊢ (wholeAny sendM c : sProp 𝕄) :=
  of_lanes sendM (View.set_whole _) c (someOf X S4x3x128x128)
/-- The parts received make up the whole buffer they arrived in. -/
theorem whole_recv : (bigSep Finset.univ fun i : Lane => brings X c 1 i) ⊢ (wholeAny recvM c : sProp 𝕄) :=
  (bigSep_mono fun i _ => holds_any (tile4 recvM i) c _).trans (of_lanes recvM (View.set_whole _) c (someOf X S4x3x128x128))
/-- The sums received make up the whole buffer they arrived in. -/
theorem whole_gath : (bigSep Finset.univ fun i : Lane => brings X c 3 i) ⊢ (wholeAny gathM c : sProp 𝕄) :=
  (bigSep_mono fun i _ => holds_any (tile4 gathM i) c _).trans (of_lanes gathM (View.set_whole _) c (someOf X S4x3x128x128))
/-- When all sums have left, the buffer they were sent from is whole again. -/
theorem whole_sum : (bigSep Finset.univ fun i : Lane => brings X c 2 i) ⊢ (wholeAny sumM c : sProp 𝕄) := by
  have h (j : Fin 4) : (bigSep Finset.univ fun e : Fin 3 => brings X c 2 (j, e)) ⊢ (anyOf (tile3 sumM j) c : sProp 𝕄) := by
    rw [bigSep_three]
    exact lend_any (tile3 sumM j) c (total X c j)
  rw [bigSep_univ_prod]
  exact (bigSep_mono fun j _ => h j).trans (of_four sumM (View.set_whole _) c (someOf X S4x128x128))

/-- The result, in the buffer it leaves from. -/
def resultAt (c : Dev nD) : sProp 𝕄 := iprop(outM.view.loc (c : Thread nD τ) ↦[Finset.univ]{fullShare} (result X : Buf (Elt F) (outM.view.loc (c : Thread nD τ))))

/-- From the state the body ends in to the semaphores at zero, the buffers whole and the result in place. -/
theorem leave : (Dep X κ (haul X Z c) c 12 12 : sProp 𝕄)
    ⊢ |={Set.univ}=> iprop(quiet c ∗ semVal (barCell c) 0 ∗ scratch c ∗ idsAt X c ∗ tabAt X c ∗ resultAt X c ∗ owing c 0 ∗ Z) := by
  unfold Dep haul aside
  rw [fam_all X 0 rankW rankW_lt, fam_all X 2 rankW rankW_lt, fam_all X 1 rankR rankR_lt, fam_all X 3 rankR rankR_lt]
  iintro ⟨#HP, ⟨B0, A0⟩, ⟨B2, A2⟩, HO, ⟨B1, A1⟩, ⟨B3, A3⟩, HU, HX, AB, HI, HT, HZ⟩
  imod (close_role X (κ := κ) (c := c) 0) $$ [A0] with V0
  · isplitr <;> iassumption
  imod (close_role X (κ := κ) (c := c) 1) $$ [A1] with V1
  · isplitr <;> iassumption
  imod (close_role X (κ := κ) (c := c) 2) $$ [A2] with V2
  · isplitr <;> iassumption
  imod (close_role X (κ := κ) (c := c) 3) $$ [A3] with V3
  · isplitr <;> iassumption
  imod (close_bar X (κ := κ) (c := c)) $$ [AB] with VB
  · isplitr <;> iassumption
  imodintro
  unfold outAt
  icases HU with ⟨%f, %hf, HU⟩
  obtain rfl := good_result X c f hf
  isplitl [V0 V1 V2 V3]
  · unfold quiet
    rw [by_role]
    isplitl [V0]; · iexact V0
    isplitl [V1]; · iexact V1
    isplitl [V2] <;> iassumption
  isplitl [VB]; · iexact VB
  isplitl [HX B0 B1 B2 B3]
  · unfold scratch
    isplitl [HX]
    · unfold extAny extAt
      iexists _; iexact HX
    isplitl [B0]; · iapply (whole_send X); iexact B0
    isplitl [B1]; · iapply (whole_recv X); iexact B1
    isplitl [B2]; · iapply (whole_sum X); iexact B2
    iapply (whole_gath X); iexact B3
  isplitl [HI]; · iexact HI
  isplitl [HT]; · iexact HT
  isplitl [HU]; · unfold resultAt; iexact HU
  isplitl [HO] <;> iassumption

/-- The body, from the launch's gifts and the buffers to the result in place and all semaphores at zero. -/
theorem run_body {Q : PUnit → sProp (MT nD τ sig Unit (Elt F) ℕ UU ℕ)} :
    iprop((pers X κ ∗ fresh c ∗ means c ∗ scratch c ∗ idsAt X c ∗ tabAt X c
      ∗ (∃ f : Buf (Elt F) (outM.view.loc (c : Thread nD τ)), outM.view.loc (c : Thread nD τ) ↦[Finset.univ]{fullShare} f) ∗ owing c (owed₀ c) ∗ Z)
      ∗ (iprop(quiet c ∗ semVal (barCell c) 0 ∗ scratch c ∗ idsAt X c ∗ tabAt X c ∗ resultAt X c ∗ owing c 0 ∗ Z) -∗ Q ⟨⟩))
    ⊢ (Runs c (onBuffers (cc0_body (F := F))) Q : sProp 𝕄) := by
  have hk : (Dep X κ (haul X iprop(Z ∗ (iprop(quiet c ∗ semVal (barCell c) 0 ∗ scratch c ∗ idsAt X c ∗ tabAt X c ∗ resultAt X c ∗ owing c 0 ∗ Z) -∗ Q ⟨⟩)) c) c 12 12 : sProp 𝕄)
      ⊢ |={Set.univ}=> Q ⟨⟩ := by
    refine (leave X).trans ?_
    refine fupd_mono ?_
    iintro ⟨HV, HB, HS, HI, HT, HR, HO, HZ, Hk⟩
    iapply Hk
    isplitl [HV]; · iexact HV
    isplitl [HB]; · iexact HB
    isplitl [HS]; · iexact HS
    isplitl [HI]; · iexact HI
    isplitl [HT]; · iexact HT
    isplitl [HR]; · iexact HR
    isplitl [HO] <;> iassumption
  refine BIBase.Entails.trans ?_ (run_all X hk)
  refine BIBase.Entails.trans ?_ (enter X)
  iintro ⟨⟨HP, HF, HM, HS, HI, HT, HO, HW, HZ⟩, Hk⟩
  isplitl [HP]; · iexact HP
  isplitl [HF]; · iexact HF
  isplitl [HM]; · iexact HM
  isplitl [HS]; · iexact HS
  isplitl [HI]; · iexact HI
  isplitl [HT]; · iexact HT
  isplitl [HO]; · iexact HO
  isplitl [HW]; · iexact HW
  isplitl [HZ] <;> iassumption

end Cert.KernelIdeal.Run
-- ==== Proof.Region.lean ====
/- The kernel's call as a region of the program: what the staged windows hold, what the body is given and what it leaves. -/
module

public import proofs.«01_k».proof.Proof.Edges

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ)

/-- A device's buffers when the region is entered. -/
def entryVals (c : Dev nD) : Valuation τ sig (Elt F) := StableHlo.after hostOps0 fun b => m (c, b)

/-- The blocks the region brings to the devices. -/
def input : Input F := ⟨fun c => iblk m c 0 t0_0, fun c => iblk m c 1 t0_0⟩

/-- A device's buffers when the region is left. -/
def exitVals (c : Dev nD) : Valuation τ sig (Elt F) :=
  Function.update (entryVals m c) (Proc.devRef .tc main_v2) (result (input m))

variable (X : Input F) in
/-- What a device enters the body with beside its buffers. -/
def opened (c : Dev nD) : sProp 𝕄 := iprop(∃ κ, pers X κ ∗ fresh c ∗ means c)
variable (X : Input F) in
/-- What a device enters the region with. -/
def kept (c : Dev nD) : sProp 𝕄 := iprop(∃ κ, invs X κ ∗ sealed c ∗ means c)

/-- The body's view of the windows: the two inputs stay as they are brought, the result is written. -/
def datum (c : Dev nD) : Dat τ (Elt F) Unit ℕ UU ℕ cfg0 c where
  A w := V m c (Pipeline.arrRef spec0 w)
  after w t := match w with
    | 0 => iblk m c 0 t
    | 1 => iblk m c 1 t
    | 2 => result (input m)
    | ⟨_ + 3, h⟩ => absurd h (Nat.not_lt.2 (Nat.le_add_left _ _))
  Φ t := if t.val = 0 then iprop(opened (input m) c ∗ scratch c ∗ ∃ r, prngReg c r)
    else iprop(semVal (barCell c) 0 ∗ quiet c ∗ scratch c ∗ ∃ r, prngReg c r)
  q _ := fullShare
  owed t := if t.val = 0 then owed₀ c else 0

/-- What the body begins with beside the windows. -/
theorem Φ_first (c : Dev nD) : (datum m c).Φ t0_0.castSucc = iprop(opened (input m) c ∗ scratch c ∗ ∃ r, prngReg c r) := rfl
/-- What the body ends with beside the windows. -/
theorem Φ_last (c : Dev nD) : (datum m c).Φ t0_0.succ = iprop(semVal (barCell c) 0 ∗ quiet c ∗ scratch c ∗ ∃ r, prngReg c r) := rfl

/-- The first window brings the indices. -/
theorem before_ids (c : Dev nD) (t : Fin cfg0.N) (d) : (datum m c).before 0 t d = iblk m c 0 t :=
  ((datum m c).before_in_eq_fetched 0 rfl (fun _ => rfl) (fun _ _ _ => rfl) (fun _ => rfl) t d).trans rfl
/-- The second window brings the device's part of the table. -/
theorem before_tab (c : Dev nD) (t : Fin cfg0.N) (d) : (datum m c).before 1 t d = iblk m c 1 t :=
  ((datum m c).before_in_eq_fetched 1 rfl (fun _ => rfl) (fun _ _ _ => rfl) (fun _ => rfl) t d).trans rfl

/-- At the beginning all signals, parts and sums are owed. -/
theorem owesAt_first (c : Dev nD) : ((datum m c).owesAt () t0_0.castSucc : sProp 𝕄) ⊢ owing c (owed₀ c) := by
  unfold Dat.owesAt Pipeline.owesWithin owing
  iintro ⟨%W, -, HO⟩
  iexists W
  iexact HO
/-- At the end nothing is owed. -/
theorem owesAt_last (c : Dev nD) : owing c 0 ⊢ ((datum m c).owesAt () t0_0.succ : sProp 𝕄) := by
  unfold Dat.owesAt Pipeline.owesWithin Dat.bound owing
  iintro ⟨%W, HO⟩
  iexists W
  isplitr; · ipureintro; exact fun _ _ => Or.inl trivial
  iexact HO

/-- The first window's stage is the body's indices. -/
theorem owns_ids (X : Input F) (c : Dev nD) : (owns (c : Thread nD τ) (Memref.whole cc0_stg0_0) fullShare (X.ids c) : sProp 𝕄) = idsAt X c :=
  owns_whole (c : Thread nD τ) cc0_stg0_0 fullShare (X.ids c)
/-- The second window's stage is the body's part of the table. -/
theorem owns_tab (X : Input F) (c : Dev nD) : (owns (c : Thread nD τ) (Memref.whole cc0_stg1_0) fullShare (X.tab c) : sProp 𝕄) = tabAt X c :=
  owns_whole (c : Thread nD τ) cc0_stg1_0 fullShare (X.tab c)
/-- The third window's stage is the body's result. -/
theorem owns_out (c : Dev nD) (f : Vec F S512x512 .bf16) : (owns (c : Thread nD τ) (Memref.whole cc0_stg2_0) fullShare f : sProp 𝕄)
    = iprop(outM.view.loc (c : Thread nD τ) ↦[Finset.univ]{fullShare} (f : Buf (Elt F) (outM.view.loc (c : Thread nD τ)))) :=
  owns_whole (c : Thread nD τ) cc0_stg2_0 fullShare f

/-- The body, run on the staged blocks, leaves the result. -/
theorem body (c : Dev nD) : BodyObligation (datum m c) (defs₀ (F := F)) Variants.none () Set.univ := fun t => by
  obtain rfl := fin_N0 t
  have hW (Φ : Fin 3 → sProp 𝕄) := bigSep_W0 Φ
  rw [Φ_first, Φ_last]
  refine (show _ ⊢ iprop((opened (input m) c ∗ scratch c ∗ ∃ r, prngReg c r) ∗ (datum m c).owesAt () t0_0.castSucc
    ∗ (∃ d, owns (c : Thread nD τ) (Memref.whole cc0_stg0_0) fullShare ((datum m c).before 0 t0_0 d))
    ∗ (∃ d, owns (c : Thread nD τ) (Memref.whole cc0_stg1_0) fullShare ((datum m c).before 1 t0_0 d))
    ∗ (∃ d, owns (c : Thread nD τ) (Memref.whole cc0_stg2_0) fullShare ((datum m c).before 2 t0_0 d))) from
      sep_mono_right (sep_mono_right (Entails.of_eq (hW _)))).trans ?_
  refine BIBase.Entails.trans ?_ (show (Runs c (onBuffers (cc0_body (F := F))) (fun _ => iprop((semVal (barCell c) 0 ∗ quiet c ∗ scratch c ∗ ∃ r, prngReg c r)
    ∗ (datum m c).owesAt () t0_0.succ
    ∗ owns (c : Thread nD τ) (Memref.whole cc0_stg0_0) fullShare ((input m).ids c)
    ∗ owns (c : Thread nD τ) (Memref.whole cc0_stg1_0) fullShare ((input m).tab c)
    ∗ owns (c : Thread nD τ) (Memref.whole cc0_stg2_0) fullShare (result (input m)))) : sProp 𝕄) ⊢ _ from
      wp_mono _ _ _ fun _ => sep_mono_right (sep_mono_right (Entails.of_eq
        (hW fun w : Fin 3 => owns (c : Thread nD τ) ((cfg0.win w).stage (cfg0.slots t0_0 w)) fullShare ((datum m c).after w t0_0)).symm)))
  simp only [before_ids, before_tab]
  unfold opened
  iintro ⟨⟨⟨%κ, HP, HF, HM⟩, HS, HZ⟩, HO, ⟨%d0, H0⟩, ⟨%d1, H1⟩, ⟨%d2, H2⟩⟩
  iapply (run_body (input m) (κ := κ) (c := c) (Z := iprop(∃ r, prngReg c r)))
  isplitr []
  · isplitl [HP]; · iexact HP
    isplitl [HF]; · iexact HF
    isplitl [HM]; · iexact HM
    isplitl [HS]; · iexact HS
    isplitl [H0]; · iapply (Entails.of_eq (owns_ids (input m) c)); iexact H0
    isplitl [H1]; · iapply (Entails.of_eq (owns_tab (input m) c)); iexact H1
    isplitl [H2]; · iexists _; iapply (Entails.of_eq (owns_out c _)); iexact H2
    isplitl [HO]; · iapply (owesAt_first m c); iexact HO
    iexact HZ
  rw [owns_ids, owns_tab, owns_out]
  unfold resultAt
  iintro ⟨HV, HB, HS, HI, HT, HR, HO, HZ⟩
  isplitl [HV HB HS HZ]
  · isplitl [HB]; · iexact HB
    isplitl [HV]; · iexact HV
    isplitl [HS] <;> iassumption
  isplitl [HO]; · iapply (owesAt_last m c); iexact HO
  isplitl [HI]; · iexact HI
  isplitl [HT]; · iexact HT
  iexact HR

end Cert.KernelIdeal.Run
-- ==== Proof.Deal.lean ====
/- What the launch hands out: the semaphores, the rights to count them up, and what is owed on them, device by device. -/
module

public import proofs.«01_k».proof.Proof.Edges

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Input F)

/-! ## The semaphores -/

/-- The semaphore of a role and a lane. -/
def laneSem (k : Fin 4 × Lane) : SemLoc sig := .dma (dsem k.1 k.2)

/-- Different roles and lanes have different semaphores. -/
theorem laneSem_inj : Function.Injective laneSem := fun k k' h => by
  obtain ⟨h1, h2⟩ := dsem_inj (SemLoc.dma.inj h)
  exact Prod.ext h1 h2
/-- No lane's semaphore is the barrier. -/
theorem laneSem_ne (k : Fin 4 × Lane) : laneSem k ≠ .reg barS := fun h => by cases h

/-- The lanes' semaphores are the kernel's own: they live in its call and serve no window. -/
theorem laneSem_own : Pipeline.OwnSemFacts spec0 laneSem where
  isScoped := by decide
  inj := laneSem_inj
  disj := by decide

/-- The devices' barriers, as an embedding. -/
def barEmb : Dev nD ↪ GSem nD τ sig := ⟨fun c => barCell c, fun _ _ h => congrArg (fun g : GSem nD τ sig => g.1.1) h⟩
/-- The devices' lane semaphores, as an embedding. -/
def laneEmb : Dev nD × Fin 4 × Lane ↪ GSem nD τ sig :=
  ⟨fun p => cell p.2.1 p.1 p.2.2, fun p p' h =>
    Prod.ext (congrArg (fun g : GSem nD τ sig => g.1.1) h) (laneSem_inj (a₁ := p.2) (a₂ := p'.2) (congrArg Prod.snd h))⟩

/-- The barrier semaphores. -/
abbrev barCells : Finset (GSem nD τ sig) := Finset.univ.map barEmb
/-- The lanes' semaphores. -/
abbrev laneCells : Finset (GSem nD τ sig) := Finset.univ.map laneEmb

/-- The barriers and the lanes' semaphores have nothing in common. -/
theorem disjoint_cells : Disjoint barCells laneCells := Finset.disjoint_left.mpr fun g h₁ h₂ => by
  obtain ⟨c, -, rfl⟩ := Finset.mem_map.mp h₁
  obtain ⟨p, -, h⟩ := Finset.mem_map.mp h₂
  exact laneSem_ne p.2 (congrArg Prod.snd h)

/-! ## The rights -/

/-- One right for each signal and one for each lane's semaphore. -/
def rightEmb : (Dev nD × Fin 3) ⊕ (Dev nD × Fin 4 × Lane) ↪ GSem nD τ sig × ℕ × Fin 3 where
  toFun := Sum.elim (fun p => (barEmb p.1, 0, p.2)) fun p => (laneEmb p, 0, 0)
  inj' := by
    rintro (p | p) (p' | p') h
    · exact congrArg Sum.inl (Prod.ext (barEmb.injective (congrArg (fun t : GSem nD τ sig × ℕ × Fin 3 => t.1) h))
        (congrArg (fun t : GSem nD τ sig × ℕ × Fin 3 => t.2.2) h))
    · exact absurd (congrArg (fun t : GSem nD τ sig × ℕ × Fin 3 => t.1.2) h).symm (laneSem_ne p'.2)
    · exact absurd (congrArg (fun t : GSem nD τ sig × ℕ × Fin 3 => t.1.2) h) (laneSem_ne p.2)
    · exact congrArg Sum.inr (laneEmb.injective (congrArg (fun t : GSem nD τ sig × ℕ × Fin 3 => t.1) h))

/-- All the rights. -/
def allRights : Finset (GSem nD τ sig × ℕ × Fin 3) := Finset.univ.map rightEmb

/-- The rights to pay are those on the barriers and those on the lanes' semaphores. -/
theorem allRights_eq : bigSep allRights (fun x => (dutyTok ER x.1 x.2.1 x.2.2 : sProp 𝕄))
    = iprop((bigSep Finset.univ fun p : Dev nD × Fin 3 => dutyTok ER (barCell p.1) 0 p.2)
      ∗ bigSep Finset.univ fun p : Dev nD × Fin 4 × Lane => dutyTok ER (cell p.2.1 p.1 p.2.2) 0 0) := by
  unfold allRights
  rw [bigSep_map, bigSep_univ_sum]
  rfl

/-- Signals seen from the giver and from the taker. -/
def swap : Dev nD × Fin 3 ≃ Dev nD × Fin 3 where
  toFun p := (peer p.1 p.2, p.2.rev)
  invFun p := (peer p.1 p.2, p.2.rev)
  left_inv p := Prod.ext (peer_rev p.1 p.2) (Fin.rev_rev p.2)
  right_inv p := Prod.ext (peer_rev p.1 p.2) (Fin.rev_rev p.2)

/-- Lanes seen from the sender and from the receiver. -/
def along : Dev nD × Lane ≃ Dev nD × Lane where
  toFun p := (peer p.1 p.2.2, p.2)
  invFun p := (back p.1 p.2.2, p.2)
  left_inv p := Prod.ext (back_peer p.1 p.2.2) rfl
  right_inv p := Prod.ext (peer_back p.1 p.2.2) rfl

/-- A family over the devices and their lanes may be dealt to the senders. -/
theorem to_senders (Φ : Dev nD → Lane → sProp 𝕄) : (bigSep Finset.univ fun c : Dev nD => bigSep Finset.univ fun i : Lane => Φ c i)
    = bigSep Finset.univ fun c : Dev nD => bigSep Finset.univ fun i : Lane => Φ (peer c i.2) i := by
  rw [← bigSep_univ_prod fun p : Dev nD × Lane => Φ p.1 p.2, bigSep_univ_equiv along, bigSep_univ_prod]
  rfl

/-- The rights to signal, dealt to the signallers. -/
theorem deal_bars : (bigSep Finset.univ fun p : Dev nD × Fin 3 => (dutyTok ER (barCell p.1) 0 p.2 : sProp 𝕄))
    = bigSep Finset.univ fun c : Dev nD => bigSep Finset.univ fun e : Fin 3 => dutyTok ER (barCell (peer c e)) 0 e.rev := by
  rw [bigSep_univ_equiv swap, bigSep_univ_prod]
  rfl

/-- The rights to the lanes, dealt to the senders. -/
theorem deal_lanes : (bigSep Finset.univ fun p : Dev nD × Fin 4 × Lane => (dutyTok ER (cell p.2.1 p.1 p.2.2) 0 0 : sProp 𝕄))
    ⊢ bigSep Finset.univ fun c : Dev nD => toks c := by
  unfold toks
  rw [bigSep_univ_prod, bigSep_congr fun c _ => by_role fun k : Fin 4 × Lane => dutyTok ER (cell k.1 c k.2) 0 0]
  simp only [bigSep_sep']
  rw [to_senders fun c i => dutyTok ER (cell 1 c i) 0 0, to_senders fun c i => dutyTok ER (cell 3 c i) 0 0]
  iintro ⟨H0, H1, H2, H3⟩
  isplitl [H0 H2]
  · isplitl [H0] <;> iassumption
  isplitl [H1] <;> iassumption

/-! ## What is owed -/

/-- Each device is signalled three times, once by each other device. -/
theorem sum_peers (c : Dev nD) : (∑ d : Dev nD, ((if c = peer d 2 then 1 else 0) + (if c = peer d 1 then 1 else 0) + if c = peer d 0 then 1 else 0)) = 3 := by
  revert c
  decide

/-- For each distance exactly one device sends to `c`. -/
theorem sum_sender (c : Dev nD) (e : Fin 3) (n : ℕ) : (∑ d : Dev nD, if c = peer d e then n else 0) = n := by
  rw [Finset.sum_congr rfl fun d _ => if_congr (show c = peer d e ↔ d = back c e from
    ⟨fun h => by rw [h, back_peer], fun h => by rw [h, peer_back]⟩) rfl rfl, Finset.sum_ite_eq' Finset.univ (back c e) fun _ => n, if_pos (Finset.mem_univ _)]

/-- What a device owes on another's lane semaphore. -/
theorem debt_lane (d c : Dev nD) (r r' : Fin 4) (i : Lane) (due : Lane → ℕ) (hdue : ∀ i, 0 < due i) :
    debt (far r' d) due 0 (cell r c i) () = if r = r' ∧ c = peer d i.2 then N else 0 := by
  unfold debt
  rw [Finset.sum_apply, Finsupp.finset_sum_apply]
  rw [Finset.sum_eq_single i (fun j _ hj => by
    rw [if_pos (hdue j), tallyAt_apply, if_neg fun h => hj (dsem_inj (SemLoc.dma.inj (congrArg Prod.snd h.1))).2.symm]) (fun h => absurd (Finset.mem_univ i) h)]
  rw [if_pos (hdue i), tallyAt_apply]
  refine if_congr ⟨fun h => ⟨(dsem_inj (SemLoc.dma.inj (congrArg Prod.snd h.1))).1, congrArg (fun g : GSem nD τ sig => g.1.1) h.1⟩, ?_⟩ rfl rfl
  rintro ⟨rfl, h⟩
  exact ⟨by rw [h], rfl⟩

/-- What device `d` owes on the barrier of device `c` at the start. -/
theorem owed_bar (d c : Dev nD) : owed₀ d (barCell c) ()
    = (if c = peer d 2 then 1 else 0) + (if c = peer d 1 then 1 else 0) + if c = peer d 0 then 1 else 0 := by
  have h0 : owed d 0 0 (barCell c) () = 0 := Nat.eq_zero_of_not_pos fun h => by
    rcases owed_pos d 0 0 _ _ h with ⟨i, h⟩ | ⟨i, h⟩
    · exact laneSem_ne (1, i) (congrArg Prod.snd h).symm
    · exact laneSem_ne (3, i) (congrArg Prod.snd h).symm
  have h1 (e : Fin 3) : (tallyAt (barCell (peer d e)) () 1 : CellTallies nD τ sig Unit) (barCell c) () = if c = peer d e then 1 else 0 := by
    rw [tallyAt_apply]
    exact if_congr ⟨fun h => congrArg (fun g : GSem nD τ sig => g.1.1) h.1, fun h => ⟨by rw [h], rfl⟩⟩ rfl rfl
  show owed d 0 0 (barCell c) () + (tallyAt (barCell (peer d 2)) () 1 : CellTallies nD τ sig Unit) (barCell c) ()
    + (tallyAt (barCell (peer d 1)) () 1 : CellTallies nD τ sig Unit) (barCell c) () + (tallyAt (barCell (peer d 0)) () 1 : CellTallies nD τ sig Unit) (barCell c) () = _
  rw [h0, h1, h1, h1, Nat.zero_add]

/-- What device `d` owes on a lane's semaphore of device `c` at the start. -/
theorem owed_lane (d c : Dev nD) (r : Fin 4) (i : Lane) : owed₀ d (cell r c i) ()
    = (if r = 1 ∧ c = peer d i.2 then N else 0) + if r = 3 ∧ c = peer d i.2 then N else 0 := by
  have h1 (e : Fin 3) : (tallyAt (barCell (peer d e)) () 1 : CellTallies nD τ sig Unit) (cell r c i) () = 0 := by
    rw [tallyAt_apply]
    exact if_neg fun h => laneSem_ne (r, i) (congrArg Prod.snd h.1)
  show debt (far 1 d) dueS 0 (cell r c i) () + debt (far 3 d) dueG 0 (cell r c i) () + (tallyAt (barCell (peer d 2)) () 1 : CellTallies nD τ sig Unit) (cell r c i) ()
    + (tallyAt (barCell (peer d 1)) () 1 : CellTallies nD τ sig Unit) (cell r c i) () + (tallyAt (barCell (peer d 0)) () 1 : CellTallies nD τ sig Unit) (cell r c i) () = _
  rw [h1, h1, h1, debt_lane d c r 1 i dueS (by decide), debt_lane d c r 3 i dueG (by decide)]
  rfl

/-- All devices together owe three signals on each barrier. -/
theorem launch_bar (c : Dev nD) :
    tallyOn (barCell c) (launchCredit (Pipeline.owing owed₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c, sum_peers]

/-- All devices together owe one part's arrival on each lane. -/
theorem launch_part (c : Dev nD) (i : Lane) :
    tallyOn (cell 1 c i) (launchCredit (Pipeline.owing owed₀) 0 (cell 1 c i)) = (tallyAt (cell 1 c i) () N : CellTallies nD τ sig Unit) := by
  unfold tallyAt
  refine congrArg _ (Finsupp.ext fun u => ?_)
  cases u
  rw [Pipeline.launchCredit_owing, Finsupp.single_eq_same, Finset.sum_congr rfl fun d _ => (owed_lane d c 1 i).trans
    (show _ = if c = peer d i.2 then N else 0 by
      rw [if_neg (show ¬ ((1 : Fin 4) = 3 ∧ c = peer d i.2) from fun h => absurd h.1 (by decide)), Nat.add_zero]
      exact if_congr ⟨fun h => h.2, fun h => ⟨rfl, h⟩⟩ rfl rfl), sum_sender]

/-- All devices together owe one sum's arrival on each lane. -/
theorem launch_sum (c : Dev nD) (i : Lane) :
    tallyOn (cell 3 c i) (launchCredit (Pipeline.owing owed₀) 0 (cell 3 c i)) = (tallyAt (cell 3 c i) () N : CellTallies nD τ sig Unit) := by
  unfold tallyAt
  refine congrArg _ (Finsupp.ext fun u => ?_)
  cases u
  rw [Pipeline.launchCredit_owing, Finsupp.single_eq_same, Finset.sum_congr rfl fun d _ => (owed_lane d c 3 i).trans
    (show _ = if c = peer d i.2 then N else 0 by
      rw [if_neg (show ¬ ((3 : Fin 4) = 1 ∧ c = peer d i.2) from fun h => absurd h.1 (by decide)), Nat.zero_add]
      exact if_congr ⟨fun h => h.2, fun h => ⟨rfl, h⟩⟩ rfl rfl), sum_sender]

/-- What the launch says is owed to a device: three signals, and a part and a sum on every lane. -/
theorem credits (c : Dev nD) : (Pipeline.launchCred owed₀ c : sProp 𝕄) ⊢ iprop(cred (tallyAt (barCell c) () 3) ∗ dues c) := by
  unfold Pipeline.launchCred
  rw [bigSep_univ_at _ (SemLoc.reg barS), launch_bar]
  refine sep_mono_right ?_
  have hsub : Finset.univ.map ⟨laneSem, laneSem_inj⟩ ⊆ Finset.univ.erase (SemLoc.reg barS : SemLoc sig) := fun s hs => by
    obtain ⟨k, -, rfl⟩ := Finset.mem_map.mp hs
    exact Finset.mem_erase.mpr ⟨laneSem_ne k, Finset.mem_univ _⟩
  refine (bigSep_subset hsub).trans ?_
  rw [bigSep_map, by_role]
  unfold dues
  rw [bigSep_sep', bigSep_congr fun i _ => congrArg cred (launch_part c i).symm, bigSep_congr fun i _ => congrArg cred (launch_sum c i).symm]
  show (_ : sProp 𝕄) ⊢ _
  iintro ⟨-, H1, -, H3⟩
  isplitl [H1]; · iexact H1
  iexact H3

end Cert.KernelIdeal.Run
-- ==== Proof.Launch.lean ====
/- The whole program on the four devices: from any memory to the result, by the run of its two segments. -/
module

public import proofs.«01_k».proof.Proof.Region
public import proofs.«01_k».proof.Proof.Deal

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-! ## The buffers at rest -/

/-- The buffers that live as long as the program. -/
def lasting : Finset (DevRef τ sig) := (StableHlo.tcRefs τ sig).filter fun b => ¬ b.isScoped
/-- Those of them no window is on. -/
def others : Finset (DevRef τ sig) := lasting \ Pipeline.arrRefs (τ := τ) spec0

/-- The windows' arrays live as long as the program. -/
theorem arrRefs_sub : Pipeline.arrRefs (τ := τ) spec0 ⊆ lasting := by decide

/-- A device's lasting buffers, as one assertion. -/
theorem unscopedBufs_held (c : Dev nD) (W : Valuation τ sig (Elt F)) :
    (unscopedBufs c (fun b => W b) : sProp 𝕄) = StableHlo.held (c : Thread nD τ) lasting W := by
  unfold unscopedBufs StableHlo.held lasting StableHlo.tcRefs
  rw [Finset.filter_map, BI.bigSep_map]
  rfl

/-- The lasting buffers one by one: the arguments, the reshaped indices, the result. -/
theorem held_three (c : Dev nD) (W : Valuation τ sig (Elt F)) : (StableHlo.held (c : Thread nD τ) lasting W : sProp 𝕄)
    = iprop(((c : Thread nD τ).loc main_arg0 ↦{fullShare} (W main_arg0 : Buf (Elt F) ((c : Thread nD τ).loc main_arg0)))
      ∗ ((c : Thread nD τ).loc main_arg1 ↦{fullShare} (W main_arg1 : Buf (Elt F) ((c : Thread nD τ).loc main_arg1)))
      ∗ ((c : Thread nD τ).loc main_v1 ↦{fullShare} (W main_v1 : Buf (Elt F) ((c : Thread nD τ).loc main_v1)))
      ∗ ((c : Thread nD τ).loc main_v2 ↦{fullShare} (W main_v2 : Buf (Elt F) ((c : Thread nD τ).loc main_v2)))) := by
  unfold StableHlo.held
  rw [bigSep_eq_bigSepL_of_eq [Proc.devRef .tc main_arg0, Proc.devRef .tc main_arg1, Proc.devRef .tc main_v1, Proc.devRef .tc main_v2] (by decide) (by decide)]
  rfl

/-- The barrier is the only semaphore that outlives the call. -/
theorem bar_at_rest (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The two segments -/

/-- The call's blocks are admissible. -/
abbrev adm : (p : Fin 1) → (pcfgs (F := F) p).Adm := fun p => (cfgs p).toPCfg_adm
/-- The call's data: the body's view of the windows. -/
def pdats : (p : Fin 1) → (c : Dev nD) → Dat τ (Elt F) Unit ℕ UU ℕ (Pipeline.pin (pcfgs (F := F)) adm p) c
  | 0 => datum m

/-- The facts about the call's windows that the launch asks for. -/
theorem kit : Pipeline.PLaunchFacts (nD := nD) (τ := τ) (pcfgs (F := F)) 0 := launch0.toP

/-- A device's buffers at launch. -/
abbrev launchVals (c : Dev nD) : Valuation τ sig (Elt F) := fun b => m (c, b)

/-- What rides beside the buffers up to the region. -/
def riding (c : Dev nD) : sProp 𝕄 := iprop(kept (input m) c ∗ (∃ r, prngReg c r) ∗ owing c (owed₀ c))

/-- The reshape touches lasting buffers only. -/
theorem reshape_sub : ∀ op ∈ (hostOps0 : List (HloOp τ sig (Elt F))), op.bufs ⊆ lasting := fun op h => by
  simp only [hostOps0, List.mem_singleton] at h
  subst h
  show ({Proc.devRef .tc main_arg0, Proc.devRef .tc main_v1} : Finset (DevRef τ sig)) ⊆ lasting
  decide

/-- The reshape of the indices. -/
def seg0 : Pipeline.HostSeg (Name := ℕ) (U := UU) (pcfgs (F := F)) defs₀ Variants.none L lv :=
  Pipeline.HostSeg.ofOps _ _ _ _ _ lasting hostOps0 reshape_sub (List.forall_iff_forall_mem.mp hostOps0_fresh) (launchVals m) (riding m)

/-- The call's own semaphores at zero are the lanes' at zero. -/
theorem quiet_eq (c : Dev nD) : (Pipeline.ownSems0 laneSem c : sProp 𝕄) = quiet c := rfl

/-- The lanes' semaphores at zero, not yet opened, are opened when the call begins. -/
theorem opening (c : Dev nD) : iprop(kept (input m) c ∗ Pipeline.ownSems0 laneSem c ∗ levAts L lv) ⊢ (|={Set.univ}=> opened (input m) c : sProp 𝕄) := by
  rw [quiet_eq]
  unfold kept opened
  iintro ⟨⟨%κ, #HI, HS, HM⟩, HQ, #HL⟩
  ihave #HP := (pers_of (input m) (κ := κ)) $$ []
  · isplitr <;> iassumption
  imod (open_lanes (input m) (κ := κ) (c := c)) $$ [HS HQ] with HF
  · isplitr; · iexact HP
    isplitl [HS] <;> iassumption
  imodintro
  iexists κ
  isplitr; · iexact HP
  isplitl [HF] <;> iassumption

/-- The call's scratch buffers are the five of the body. -/
theorem scratch_eq (c : Dev nD) : (Pipeline.scopedRest (Ix := Unit) (Name := ℕ) (U := UU) (Lvl := ℕ) (Val := Elt F) (Pipeline.pin (pcfgs (F := F)) adm 0).spec c : sProp 𝕄)
    = scratch c := scopedRest0_eq c

/-- To hold no buffers is to hold nothing. -/
theorem held_none (c : Dev nD) (W : Valuation τ sig (Elt F)) : (StableHlo.held (c.tc : Thread nD τ) ∅ W : sProp 𝕄) = BI.emp := by
  unfold StableHlo.held
  exact BI.bigSep_empty

/-- What the call begins with is what the body begins with. -/
theorem entering (c : Dev nD) : iprop(Pipeline.scopedRest (Pipeline.pin (pcfgs (F := F)) adm 0).spec c ∗ (∃ r, prngReg c r)
      ∗ StableHlo.held (c.tc : Thread nD τ) ∅ (entryVals m c) ∗ opened (input m) c)
    ⊢ (pdats m 0 c).Φ 0 := by
  rw [show (pdats m 0 c).Φ 0 = iprop(opened (input m) c ∗ scratch c ∗ ∃ r, prngReg c r) from rfl, scratch_eq]
  iintro ⟨HS, HR, -, HO⟩
  isplitl [HO]; · iexact HO
  isplitl [HS] <;> iassumption

/-- What the body ends with is what the call ends with. -/
theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (exitVals m c) ∗ Pipeline.ownSems0 laneSem c ∗ semVal (barCell c) 0) := by
  rw [show (pdats m 0 c).Φ (Fin.last _) = iprop(semVal (barCell c) 0 ∗ quiet c ∗ scratch c ∗ ∃ r, prngReg c r) from rfl, scratch_eq, quiet_eq, held_none]
  iintro ⟨HB, HQ, HS, HR⟩
  isplitl [HS]; · iexact HS
  isplitl [HR]; · iexact HR
  isplitr; · iempintro
  isplitl [HQ] <;> iassumption

/-- At the start only barriers, parts and sums of other devices are owed. -/
theorem owed₀_pos (c : Dev nD) (g : GSem nD τ sig) (u : Unit) (h : 0 < owed₀ c g u) : (∃ c', g = barCell c') ∨ (∃ i, g = far 1 c i) ∨ (∃ i, g = far 3 c i) := by
  have e : owed₀ c g u = owed c 0 0 g u + (tallyAt (barCell (peer c 2)) () 1 : CellTallies nD τ sig Unit) g u
    + (tallyAt (barCell (peer c 1)) () 1 : CellTallies nD τ sig Unit) g u + (tallyAt (barCell (peer c 0)) () 1 : CellTallies nD τ sig Unit) g u := rfl
  by_contra hn
  push Not at hn
  have hb (e : Fin 3) : (tallyAt (barCell (peer c e)) () 1 : CellTallies nD τ sig Unit) g u = 0 := by
    rw [tallyAt_apply]
    exact if_neg fun h => hn.1 _ h.1
  have h0 : owed c 0 0 g u = 0 := Nat.eq_zero_of_not_pos fun h => by
    rcases owed_pos c 0 0 g u h with ⟨i, h⟩ | ⟨i, h⟩
    · exact hn.2.1 i h
    · exact hn.2.2 i h
  rw [e, h0, hb, hb, hb] at h
  exact absurd h (by decide)

/-- While the blocks are staged only what is waited for later is owed. -/
theorem cut : Pipeline.LevelCutOwed (pcfgs (F := F)) adm (pdats m) () L lv 0 (fun _ => 0) where
  hι c w s := by rw [L_tc]; exact Finset.mem_singleton_self _
  hιb c w s := le_of_eq ((by decide : ∀ (w : Fin 3) (s : Fin (spec0 w).nbuf), lvl (.dma ((spec0 w).sem s)) = 0) w s)
  hD c t g i h := by
    have e : (pdats m 0 c).owed t = if t.val = 0 then owed₀ c else 0 := rfl
    rw [e] at h
    split at h
    · rcases owed₀_pos c g i h with ⟨c', rfl⟩ | ⟨i', rfl⟩ | ⟨i', rfl⟩
      · exact ⟨by rw [L_tc]; exact Finset.mem_singleton_self _, by show 0 < 1; decide⟩
      · exact ⟨by rw [L_tc]; exact Finset.mem_singleton_self _, by rw [lv_part]; decide⟩
      · exact ⟨by rw [L_tc]; exact Finset.mem_singleton_self _, by rw [lv_sum]; decide⟩
    · exact absurd h (Nat.lt_irrefl 0)

/-- The call changes no lasting buffer but the result. -/
theorem exit_ne (c : Dev nD) (b : DevRef τ sig) (h : b ≠ Proc.devRef .tc main_v2) : exitVals m c b = entryVals m c b := Function.update_of_ne h _ _
/-- After the call the result holds the devices' sums. -/
theorem exit_v2 (c : Dev nD) : exitVals m c (Proc.devRef .tc main_v2) = result (input m) := Function.update_self ..

/-- The result is one of the arrays that windows are on. -/
theorem result_mem : Proc.devRef .tc main_v2 ∈ Pipeline.arrRefs (τ := τ) spec0 := by decide

/-- Lasting buffers no window is on stay as they are. -/
theorem others_kept (c : Dev nD) : ∀ b ∈ others \ ∅, exitVals m c b = entryVals m c b := fun b hb => exit_ne m c b fun h => by
  rw [Finset.sdiff_empty] at hb
  exact (Finset.mem_sdiff.mp hb).2 (h ▸ result_mem)

/-- The result's window writes the whole array back. -/
theorem arr_out (c : Dev nD) : (datum m c).arrAt 2 cfg0.N = result (input m) := by
  refine (datum m c).arrAt_eq_of_cover 2 (result (input m)) (fun t _ => ?_) (fun i => ⟨t0_0, flush0_2 t0_0, ?_⟩)
  · obtain rfl := fin_N0 t
    funext x
    show result (input m) x = result (input m) (((cfg0.win 2).blk t0_0).view.emb x)
    refine congrArg (result (input m)) (funext fun a => Fin.ext ?_)
    show (x a).val = _
    fin_cases a
    · show (x 0).val = 0 + 1 * (x 0).val; omega
    · show (x 1).val = 0 + 1 * (x 1).val; omega
  · refine Finset.mem_map.mpr ⟨i, Finset.mem_univ _, funext fun a => Fin.ext ?_⟩
    fin_cases a
    · show 0 + 1 * (i 0).val = (i 0).val; omega
    · show 0 + 1 * (i 1).val = (i 1).val; omega

/-- At the beginning the windows' arrays hold what they hold on entry. -/
theorem arr_entry (c : Dev nD) : ∀ w : Fin 3, (datum m c).arrAt w 0 = entryVals m c (Proc.devRef .tc (Pipeline.arrRef spec0 w)) := fun _ => rfl
/-- At the end the windows' arrays hold what they hold on exit. -/
theorem arr_exit (c : Dev nD) : ∀ w : Fin 3, (datum m c).arrAt w cfg0.N = exitVals m c (Proc.devRef .tc (Pipeline.arrRef spec0 w))
  | 0 => ((datum m c).arrAt_in 0 rfl _).trans (exit_ne m c (Proc.devRef .tc main_v1) (by decide)).symm
  | 1 => ((datum m c).arrAt_in 1 rfl _).trans (exit_ne m c (Proc.devRef .tc main_arg1) (by decide)).symm
  | 2 => (arr_out m c).trans (exit_v2 m c).symm
  | ⟨_ + 3, h⟩ => absurd h (Nat.not_lt.2 (Nat.le_add_left _ _))

set_option backward.isDefEq.respectTransparency.types false in
/-- The kernel's call. -/
def reg0 : Pipeline.RegionSeg (pcfgs (F := F)) adm (pdats m) () defs₀ Variants.none L lv 0 :=
  Pipeline.RegionSeg.ofTalk (pcfgs (F := F)) adm (pdats m) () defs₀ Variants.none L lv 0 laneSem laneSem_own
    ∅ others (Finset.empty_subset _) kit rfl (fun c => (body m c).loose)
    (fun _ => 0) owed₀ (fun c => (zero_add _).symm) (fun _ => rfl) (fun _ => rfl) (fun _ w => by
      show (if _ then fullShare else fullShare) = fullShare; split <;> rfl)
    (entryVals m) (exitVals m) (others_kept m)
    (kept (input m)) (fun c => semVal (barCell c) 0) (opened (input m)) (fun c => semVal (barCell c) 0) (opening m) (entering m) (leaving m)
    (fun c => by iintro H; imodintro; iexact H)
    (fun _ => 0) (cut m) (fun _ => iprop(emp)) (arr_entry m) (arr_exit m)

/-- The lasting buffers are the windows' arrays and the others. -/
theorem held_split (c : Dev nD) (W : Valuation τ sig (Elt F)) : (StableHlo.held (c : Thread nD τ) lasting W : sProp 𝕄)
    = iprop(StableHlo.held (c : Thread nD τ) (Pipeline.arrRefs (τ := τ) spec0) W ∗ StableHlo.held (c : Thread nD τ) others W) :=
  StableHlo.held_sub_split (c : Thread nD τ) arrRefs_sub W

/-- The lasting buffers and what rides beside them are what the call asks for. -/
theorem reg0_pre (c : Dev nD) : iprop(StableHlo.held (c : Thread nD τ) lasting (entryVals m c) ∗ riding m c) ⊢ (reg0 m).pre c := by
  show _ ⊢ iprop(StableHlo.held (c.tc : Thread nD τ) (Pipeline.arrRefs (τ := τ) spec0) (entryVals m c) ∗ (∃ r, prngReg c r)
    ∗ (StableHlo.held (c.tc : Thread nD τ) others (entryVals m c) ∗ emp) ∗ kept (input m) c ∗ ∃ Wd, owes (c : Thread nD τ) (0 + owed₀ c) Wd)
  rw [held_split, zero_add]
  unfold riding owing
  iintro ⟨⟨HA, HB⟩, HK, HP, HO⟩
  isplitl [HA]; · iexact HA
  isplitl [HP]; · iexact HP
  isplitl [HB]
  · isplitl [HB]; · iexact HB
    iempintro
  isplitl [HK] <;> iassumption

/-- What the call leaves: the lasting buffers, the barrier at zero and nothing owed. -/
theorem reg0_post (c : Dev nD) : (reg0 m).post c
    ⊢ iprop((StableHlo.held (c : Thread nD τ) lasting (exitVals m c) ∗ semVal (barCell c) 0) ∗ ∃ W, owes (c : Thread nD τ) (0 : CellTallies nD τ sig Unit) W) := by
  show iprop(StableHlo.held (c.tc : Thread nD τ) (Pipeline.arrRefs (τ := τ) spec0) (exitVals m c) ∗ (∃ r, prngReg c r)
    ∗ (StableHlo.held (c.tc : Thread nD τ) others (exitVals m c) ∗ emp) ∗ semVal (barCell c) 0 ∗ ∃ Wd, owes (c : Thread nD τ) (0 : CellTallies nD τ sig Unit) Wd) ⊢ _
  rw [held_split]
  iintro ⟨HA, -, ⟨HB, -⟩, HV, HO⟩
  isplitr [HO]
  · isplitl [HA HB]
    · isplitl [HA] <;> iassumption
    iexact HV
  iexact HO

/-- The program as its two segments. -/
def segs : List (Pipeline.Seg (pcfgs (F := F)) adm (pdats m) () defs₀ Variants.none L lv) := [.host (seg0 m), .region (reg0 m)]

/-- The program is its two segments run in turn. -/
theorem main_eq (c : Dev nD) : main (F := F) c = Pipeline.Seg.run (segs m) :=
  main_segs adm (pdats m) () Variants.none L lv (seg0 m) (reg0 m) rfl c

/-! ## The launch -/

/-- The share of the resources the launch makes: the staging's and the exchange's. -/
def launchShare : UU :=
  (initOf (Pipeline.cells (Pipeline.pin (pcfgs (F := F)) adm) cellOf_inj) (Pipeline.launchToks (Pipeline.pin (pcfgs (F := F)) adm) cellOf_inj),
    launchOf barCells laneCells allRights)

/-- All of a resource on one device. -/
def only (c₀ : Dev nD) (P : sProp 𝕄) (c : Dev nD) : sProp 𝕄 := if c = c₀ then P else iprop(emp)
/-- A resource on one device is the resource. -/
theorem bigSep_only (c₀ : Dev nD) (P : sProp 𝕄) : bigSep Finset.univ (only c₀ P) = P := by
  rw [bigSep_univ_at _ c₀, bigSep_congr (s := Finset.univ.erase c₀) (Ψ := fun _ => (BI.emp : sProp 𝕄))
      fun c hc => by unfold only; rw [if_neg (Finset.ne_of_mem_erase hc)]; rfl, BI.bigSep_emp_const]
  unfold only; rw [if_pos rfl]
  exact BI.equiv_iff.mp sep_emp

/-- The exchange's share, on the first device until it is dealt. -/
def parked : Dev nD → sProp 𝕄 := only 0 (BI.own (ER (launchOf barCells laneCells allRights)))

/-- What all devices may consult: the invariants, and that every barrier is at its beginning. -/
def records (κ : GSem nD τ sig → ℕ) : sProp 𝕄 := iprop(invs (input m) κ ∗ bigSep Finset.univ fun c : Dev nD => reached ER (barCell c) 0)
/-- The records may be consulted again and again. -/
instance records_persistent (κ : GSem nD τ sig → ℕ) : Persistent (records m κ) := by unfold records; infer_instance

/-- What is dealt to each device. -/
def dealt (c : Dev nD) : sProp 𝕄 :=
  iprop(atPos ER (barCell c) 0 ∅ 0 ∗ sealed c ∗ (bigSep Finset.univ fun e : Fin 3 => dutyTok ER (barCell (peer c e)) 0 e.rev) ∗ toks c)

/-- What each device has beside it. -/
def bundle (c : Dev nD) : sProp 𝕄 :=
  iprop(StableHlo.held (c : Thread nD τ) lasting (launchVals m c) ∗ (cred (tallyAt (barCell c) () 3) ∗ dues c)
    ∗ owes (c : Thread nD τ) (owed₀ c) ∅ ∗ ∃ r, prngReg c r)

/-- The rights to signal, with the barriers at their beginning. -/
theorem bars_of (c : Dev nD) : iprop((bigSep Finset.univ fun c : Dev nD => reached ER (barCell c) 0)
      ∗ bigSep Finset.univ fun e : Fin 3 => dutyTok ER (barCell (peer c e)) 0 e.rev) ⊢ (bars c : sProp 𝕄) := by
  have h (e : Fin 3) : iprop((bigSep Finset.univ fun c : Dev nD => reached ER (barCell c) 0) ∗ dutyTok ER (barCell (peer c e)) 0 e.rev)
      ⊢ (iprop(dutyTok ER (barCell (peer c e)) 0 e.rev ∗ reached ER (barCell (peer c e)) 0) : sProp 𝕄) := by
    have hr : (bigSep Finset.univ fun c : Dev nD => reached ER (barCell c) 0) ⊢ (reached ER (barCell (peer c e)) 0 : sProp 𝕄) :=
      bigSep_elim (Finset.mem_univ (peer c e))
    iintro ⟨HR, HT⟩
    isplitl [HT]; · iexact HT
    iapply hr; iexact HR
  unfold bars
  exact bigSep_with_persistent fun e _ => h e

/-- What is dealt to a device, with what it has beside it, is what the program starts with. -/
theorem start_of (κ : GSem nD τ sig → ℕ) (c : Dev nD) : iprop(records m κ ∗ (dealt c ∗ bundle m c))
    ⊢ iprop(StableHlo.held (c : Thread nD τ) lasting (launchVals m c) ∗ riding m c) := by
  unfold records dealt bundle riding kept means gate owing
  iintro ⟨⟨#HI, #HR⟩, ⟨HA, HS, HB, HT⟩, HH, ⟨HC, HD⟩, HO, HP⟩
  isplitl [HH]; · iexact HH
  isplitr [HO HP]
  · iexists κ
    isplitr; · iexact HI
    isplitl [HS]; · iexact HS
    isplitl [HA HC]
    · isplitl [HC] <;> iassumption
    isplitl [HB]
    · iapply (bars_of c)
      isplitr; · iexact HR
      iexact HB
    isplitl [HT] <;> iassumption
  isplitl [HP]; · iexact HP
  iexists ∅; iexact HO

/-- The invariants on the barriers and the lanes' semaphores, in the form the body uses. -/
theorem invs_eq (κ : GSem nD τ sig → ℕ) : (bigSep (barCells ∪ laneCells) fun g => cellInv ER (rd (input m)) (κ g) g) = (invs (input m) κ : sProp 𝕄) := by
  unfold invs
  rw [bigSep_union disjoint_cells, bigSep_map, bigSep_map]
  rfl

/-- Everything is dealt. -/
theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ parked c)) ∗ levAts L lv)
      ⊢ (|={Set.univ}=> bigSep Finset.univ fun c : Dev nD => iprop(StableHlo.held (c : Thread nD τ) lasting (launchVals m c) ∗ riding m c) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ parked c)
      ⊢ (iprop(bundle m c ∗ (semVal (barCell c) 0 ∗ parked c)) : sProp 𝕄) := by
    rw [show unscopedBufs c (fun b => m ((c : Thread nD τ).loc b)) = StableHlo.held (c : Thread nD τ) lasting (launchVals m c) from unscopedBufs_held c (launchVals m c),
      bar_at_rest]
    unfold bundle
    iintro ⟨Hh, Hus, HO, Hcr, Hp, HG⟩
    ihave Hc := (credits (F := F) c) $$ Hcr
    isplitr [Hus HG]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep laneCells (fun g => (openTok ER g : sProp 𝕄)) ⊢ bigSep Finset.univ (fun c : Dev nD => sealed c) :=
    Entails.of_eq (by rw [bigSep_map, bigSep_univ_prod]; rfl)
  iintro ⟨H, -⟩
  ihave ⟨HB, Hv, HG⟩ := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ parked c))
      ⊢ (iprop((bigSep Finset.univ (bundle m)) ∗ (bigSep Finset.univ fun c : Dev nD => semVal (barCell c) 0) ∗ bigSep Finset.univ parked) : sProp 𝕄) from by
      rw [← bigSep_sep', ← bigSep_sep']; exact bigSep_mono fun c _ => hcore c) $$ H
  ihave Hu := (show bigSep Finset.univ (parked (F := F)) ⊢ BI.own (ER (launchOf barCells laneCells allRights)) from
    Entails.of_eq (bigSep_only (F := F) 0 (BI.own (ER (launchOf barCells laneCells allRights))))) $$ HG
  imod (Rounds.fund_launch ER (rd (input m)) disjoint_cells (fun g _ h => h) allRights) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(dealt c ∗ bundle m c)) fun c _ => start_of m κ c)
  isplitr
  · unfold records
    isplitr; · iapply (Entails.of_eq (invs_eq m κ)); iexact Hinv
    iapply hre; iexact Hr
  rw [bigSep_sep']
  isplitr [HB]
  · ihave Htok := (Entails.of_eq (allRights_eq (F := F))) $$ Htok
    icases Htok with ⟨HT1, HT2⟩
    unfold dealt
    rw [bigSep_sep', bigSep_sep', bigSep_sep']
    isplitl [Hat]; · iapply hat $$ Hat
    isplitl [Hopen]; · iapply hopen $$ Hopen
    isplitl [HT1]; · iapply (Entails.of_eq (deal_bars (F := F))) $$ HT1
    iapply (deal_lanes (F := F)); iexact HT2
  · iexact HB

/-! ## The run -/

/-- A semaphore that outlives the call is the barrier. -/
theorem only_bar : ∀ sm : SemLoc sig, sm.isScoped .tc = false → sm = .reg barS := by decide

set_option backward.isDefEq.respectTransparency.types false in
/-- THE RUN: from any memory with all semaphores at zero every fair execution of the program on the four devices ends,
    with the arguments as they were, the result holding the devices' sums, and all semaphores at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = result (input m)) ∧ r.2.sem = fun _ => 0) :=
  Pipeline.θ_run_regions_kit_sems (pcfgs (F := F)) adm (pdats m) () cellOf_inj EP defs₀ Variants.none L lv m ρ main (segs m)
    (fun c Q => by rw [main_eq m c])
    (by simp only [segs, Pipeline.Seg.pipes_host, Pipeline.Seg.pipes_region, Pipeline.Seg.pipes_nil]; decide)
    (O₀ := owed₀) (hL := L_of_ne) (G := parked) (u₀ := launchShare)
    (hu₀ := by
      unfold launchShare parked
      iintro Hu
      ihave H := (ownU_pair _ _) $$ Hu
      icases H with ⟨HP, HX⟩
      imodintro
      isplitl [HP]; · iexact HP
      rw [bigSep_only]; iexact HX)
    (T₀ := fun c => iprop(StableHlo.held (c : Thread nD τ) lasting (launchVals m c) ∗ riding m c))
    (Tₙ := fun c => iprop(StableHlo.held (c : Thread nD τ) lasting (exitVals m c) ∗ semVal (barCell c) 0))
    (hch := ⟨fun c => .rfl, fun c => reg0_pre m c, fun c => reg0_post m c⟩)
    (hinit := init m ρ)
    (QY := fun c s => (s.mem ((c : Thread nD τ).loc main_arg0) = exitVals m c main_arg0 ∧ s.mem ((c : Thread nD τ).loc main_arg1) = exitVals m c main_arg1
        ∧ s.mem ((c : Thread nD τ).loc main_v2) = exitVals m c main_v2) ∧ s.sem (barCell c) = 0)
    (hfin := fun c s' => by
      rw [held_three]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        exact ⟨h0.trans ((exit_ne m c _ (by decide)).trans (V_main_arg0 m c)), h1.trans ((exit_ne m c _ (by decide)).trans (V_main_arg1 m c)),
          h2.trans (exit_v2 m c)⟩,
      sem_eq_zero hs fun c sm hsm => by
        obtain rfl := only_bar sm hsm
        exact (h c).2⟩)

end Cert.KernelIdeal.Run
-- ==== Proof.Frames.lean ====
/- Both programs run, leave their arguments alone and every semaphore at zero. -/
module

public import proofs.«01_k».proof.Defs
public import proofs.«01_k».proof.Proof.Gen.Kernel
public import proofs.«01_k».proof.Proof.Gen.Pre_in_vocabulary_KernelIdeal
public import proofs.«01_k».proof.Proof.Gen.Pre_in_vocabulary_ReferenceIdeal
public import proofs.«01_k».proof.Proof.Gen.ReferenceIdeal.Run
public import proofs.«01_k».proof.Proof.Launch

@[expose] public section

noncomputable section

namespace Cert.Proof

open Idealize.ShloMosaic Idealize.SL.Sem

/-- The two printings of the kernel have the same body. -/
theorem body_eq : Cert.Kernel.defs₀ (F := Bits) = Cert.KernelIdeal.defs₀ (F := Bits) :=
  congrArg Defs.onTc (funext fun ℓ => funext fun a => by
    match ℓ, a with
    | 0, (t, s) => rfl)

/-- So they are the same program. -/
theorem defs_eq : Cert.Kernel.defs (F := Bits) = Cert.KernelIdeal.defs (F := Bits) := congrArg (Pipeline.defs Cert.KernelIdeal.pcfgs) body_eq
/-- The two programs' host parts are the same. -/
theorem main_eq : Cert.Kernel.main (F := Bits) = Cert.KernelIdeal.main (F := Bits) := rfl

/-- The kernel over bits: the run of `run_main`, with what the result holds forgotten. -/
theorem frame_kernel : Cert.quiescent_Kernel := fun m ρ _ => by
  rw [defs_eq, main_eq]
  exact (θ_run Cert.KernelIdeal.defs _ _).mono (fun _ h => ⟨fun c => ⟨(h.1 c).1, (h.1 c).2.1⟩, h.2⟩) (Cert.KernelIdeal.Run.run_main (F := Bits) m ρ)

/-- The kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Run.run_main (F := Ideal) m ρ)

/-- The reference: it has no semaphore at all. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same two under the precondition of the value claim, which the frames do not need. -/
theorem frame_ideal_pre : Cert.quiescent_KernelIdeal_pre_in_vocabulary_KernelIdeal := fun m ρ _ => frame_ideal m ρ trivial
/-- The reference under the precondition. -/
theorem frame_reference_pre : Cert.quiescent_ReferenceIdeal_pre_in_vocabulary_ReferenceIdeal := fun m ρ _ => frame_reference m ρ trivial

end Cert.Proof

end
-- ==== Proof.Lookup.lean ====
/- One pass over the extended reals: the product of a device's part of the table with a table of ones and zeros is the rows looked up. -/
module

public import proofs.«01_k».proof.Proof.Lanes
public import Idealize.ShloMosaic.PureOps.Ideal
public import Idealize.ShloMosaic.Lib.ValueIdx
public import Idealize.ShloMosaic.Lib.StableHlo.Predicate

@[expose] public section

noncomputable section

namespace Cert.KernelIdeal.Run

open Idealize.ShloMosaic Idealize.ShloMosaic.ValueIdx
open Cert.KernelIdeal Cert.KernelIdeal.Gen

/-- How the pass multiplies: the places' table of ones and zeros with the part of the table. -/
abbrev byRows : DotDims S256x4096 S4096x512 S256x512 := dot_S256x4096_S4096x512_S256x512_1_0_0_1_n_n

/-- The rows of the part of the table are what is summed over. -/
def overRows : byRows.contr.Idx ≃ Fin 4096 := contrEquiv1 byRows 4096 rfl rfl

/-- Entry `j` of the product takes its row of the table of ones and zeros. -/
theorem left_at (j : S256x512.Idx) (k : Fin 4096) : byRows.lhsIdx j (overRows.symm k) = (ix2 (j 0) k : S256x4096.Idx) := by
  funext a
  match a with
  | ⟨0, _⟩ => rfl
  | ⟨1, _⟩ => exact Fin.ext ((byRows.lhsIdx_val_of_single rfl j (overRows.symm k)).trans (contrEquiv1_symm_val byRows 4096 rfl rfl k))

/-- Entry `j` of the product takes its column of the part of the table. -/
theorem right_at (j : S256x512.Idx) (k : Fin 4096) : byRows.rhsIdx j (overRows.symm k) = (ix2 k (j 1) : S4096x512.Idx) := by
  funext a
  match a with
  | ⟨0, _⟩ => exact Fin.ext ((byRows.rhsIdx_val_of_single rfl j (overRows.symm k)).trans (contrEquiv1_symm_val byRows 4096 rfl rfl k))
  | ⟨1, _⟩ => rfl

/-- A bit as a number times a value is the value or nothing. -/
theorem bit_mul (b : BitVec 1) (x : EReal) : ((((b.setWidth 32).toInt : ℤ) : ℝ) : EReal) * x = if b = 1#1 then x else 0 := by
  obtain rfl | rfl : b = 0#1 ∨ b = 1#1 := by revert b; decide
  · simp
  · simp

/-- The product with a table of bits: the sum of the rows whose bit is set. -/
theorem product (E : Vec Ideal S4096x512 .bf16) (M : IVec S256x4096 1) (r : Fin 256) (q : Fin 512) :
    k0_pay5 (F := Ideal) E M (ix2 r q) = ∑ k : Fin 4096, if M (ix2 r k) = 1#1 then E (ix2 k q) else 0 := by
  show Ideal.ofBits .f32 0x00000000#32 + (∑ k : byRows.contr.Idx,
    ((((M (byRows.lhsIdx (ix2 r q) k)).setWidth 32).toInt : ℝ) : EReal) * E (byRows.rhsIdx (ix2 r q) k)) = _
  rw [show Ideal.ofBits .f32 0x00000000#32 = 0 by simp [Ideal.ofBits, Ideal.ieee], zero_add, ← Equiv.sum_comp overRows.symm]
  refine Finset.sum_congr rfl fun k _ => ?_
  rw [left_at, right_at]
  exact bit_mul _ _

/-- The bits: row `r` has its one where the index, counted from the part's first row, says. -/
theorem bits_at (w : BitVec 32) (J : Vec Ideal S256x1 .i32) (r : Fin 256) (k : Fin 4096) :
    k0_pay4 (F := Ideal) w J (ix2 r k) = 1#1 ↔ BitVec.ofNat 32 k.val = (J (ix2 r 0) : BitVec 32) - w * 4096#32 := by
  have h : k0_pay4 (F := Ideal) w J (ix2 r k) = IntOp.cmpi .eq (BitVec.ofNat 32 k.val) ((J (ix2 r 0) : BitVec 32) - w * 4096#32) := by
    show IntOp.cmpi .eq (iota .tc S256x4096 32 [1] iota_S256x4096_d1_w32 (ix2 r k)) _ = _
    refine congrArg₂ (IntOp.cmpi .eq) ?_ ?_
    · show BitVec.ofNat 32 (0 * 4096 + k.val) = _
      rw [Nat.zero_mul, Nat.zero_add]
    · refine congrArg (fun y : S256x1.Idx => (J y : BitVec 32) - w * 4096#32) (funext fun a => Fin.ext ?_)
      match a with
      | ⟨0, _⟩ => rfl
      | ⟨1, _⟩ => rfl
  rw [h]
  exact Idealize.ShloMosaic.StableHlo.Predicate.cmpi_eq_iff

/-- What the part of the table from row `4096 * c` on has for index `n`: its row, or nothing if the index
    is of another part. -/
def found (E : Vec Ideal S4096x512 .bf16) (c n : ℕ) (q : Fin 512) : EReal :=
  if n / 4096 = c then E (ix2 ⟨n % 4096, Nat.mod_lt _ (by decide)⟩ q) else 0

/-- The index counted from the part's first row is the row `k` just if it is of the part and `k` is its
    remainder. -/
theorem row_iff (c : ℕ) (hc : c < 4) (J : BitVec 32) (hJ : J.toNat < 16384) (k : Fin 4096) :
    BitVec.ofNat 32 k.val = J - BitVec.ofNat 32 c * 4096#32 ↔ J.toNat / 4096 = c ∧ J.toNat % 4096 = k.val := by
  have hk := k.isLt
  rw [← BitVec.toNat_inj, BitVec.toNat_sub, BitVec.toNat_mul, BitVec.toNat_ofNat, BitVec.toNat_ofNat]
  simp only [BitVec.toNat_ofNat]
  omega

/-- A pass finds in row `r` what its part of the table has for the row's index. -/
theorem lookup (E : Vec Ideal S4096x512 .bf16) (c : ℕ) (hc : c < 4) (J : Vec Ideal S256x1 .i32) (r : Fin 256) (q : Fin 512)
    (hJ : (J (ix2 r 0) : BitVec 32).toNat < 16384) :
    k0_pay5 (F := Ideal) E (k0_pay4 (BitVec.ofNat 32 c) J) (ix2 r q) = found E c (J (ix2 r 0) : BitVec 32).toNat q := by
  rw [product]
  simp only [bits_at, row_iff c hc _ hJ]
  unfold found
  split
  · rename_i h
    rw [Finset.sum_eq_single (⟨_, Nat.mod_lt _ (by decide)⟩ : Fin 4096)]
    · rw [if_pos ⟨h, rfl⟩]
    · intro k _ hk
      exact if_neg fun hh => hk (Fin.ext hh.2.symm)
    · intro h; exact absurd (Finset.mem_univ _) h
  · rename_i h
    exact Finset.sum_eq_zero fun k _ => if_neg fun hh => h hh.1

end Cert.KernelIdeal.Run
-- ==== Proof.Rows.lean ====
/- The devices' passes put together, over the extended reals: the rows every device ends with. -/
module

public import proofs.«01_k».proof.Proof.Lookup
public import proofs.«01_k».proof.Proof.Pieces

@[expose] public section

noncomputable section

namespace Cert.KernelIdeal.Run

open Idealize.ShloMosaic Idealize.ShloMosaic.ValueIdx
open Cert.KernelIdeal Cert.KernelIdeal.Gen

/-- The index at place `n` of the list, counted round. -/
def idAt (I : Vec Ideal S512x1 .i32) (n : ℕ) : ℕ := (I (ix2 ⟨n % 512, Nat.mod_lt _ (by decide)⟩ 0) : BitVec 32).toNat

/-- Places that differ by whole rounds have the same index. -/
theorem idAt_round (I : Vec Ideal S512x1 .i32) {a b : ℕ} (h : a % 512 = b % 512) : idAt I a = idAt I b := by
  unfold idAt; simp only [h]

/-- All indices name rows of the whole table. -/
def Named (I : Vec Ideal S512x1 .i32) : Prop := ∀ n, idAt I n < 16384

/-- The number the kernel computes for a device is the device's. -/
theorem word_eq (c : Dev nD) : word c = BitVec.ofNat 32 c.val := by revert c; decide

/-- Where the two passes begin to read the indices: one and three blocks of rows after the device's own. -/
theorem first_row (c : Dev nD) (k : Fin 2) : k0_off1 c (BitVec.ofNat 32 (1 + 2 * k.val)) 0 = 128 * (c.val + 1 + 2 * k.val) := by revert c k; decide

/-- Device `c`'s pass `k` looks up the indices of the two devices after it, and of the two after those. -/
theorem ids2_at (I : Vec Ideal S512x1 .i32) (c : Dev nD) (k : Fin 2) (r : Fin 256) :
    (ids2 I c k (ix2 r 0) : BitVec 32).toNat = idAt I (128 * (c.val + 1 + 2 * k.val) + r.val) := by
  refine congrArg (fun x : S512x1.Idx => (I x : BitVec 32).toNat) (funext fun a => Fin.ext ?_)
  match a with
  | ⟨0, _⟩ =>
    show (k0_off1 c (BitVec.ofNat 32 (1 + 2 * k.val)) 0 + 1 * r.val) % 512 = (128 * (c.val + 1 + 2 * k.val) + r.val) % 512
    rw [first_row, Nat.one_mul]
  | ⟨1, _⟩ => exact Nat.mod_one _

/-- The pass takes the part of the table as it is. -/
theorem same_table (E : Vec Ideal S4096x512 .bf16) : k0_pay3 E = E := shapeCast_self E _

/-- What either pass finds. -/
theorem pass_at (I : Vec Ideal S512x1 .i32) (hI : Named I) (E : Vec Ideal S4096x512 .bf16) (c : Dev nD) (k : Fin 2) (r : Fin 256) (q : Fin 512) :
    k0_pay5 (F := Ideal) (k0_pay3 E) (k0_pay4 (word c) (ids2 I c k)) (ix2 r q)
      = found E c.val (idAt I (128 * (c.val + 1 + 2 * k.val) + r.val)) q := by
  rw [same_table, word_eq, ← ids2_at]
  exact lookup E c.val c.isLt _ r q (by rw [ids2_at]; exact hI _)

/-- Row `r` of the first pass: what the part of the table has for the index `r` places after its start. -/
theorem passA_at (I : Vec Ideal S512x1 .i32) (hI : Named I) (E : Vec Ideal S4096x512 .bf16) (c : Dev nD) (r : Fin 256) (q : Fin 512) :
    passA I E c (ix2 r q) = found E c.val (idAt I (128 * (c.val + 1) + r.val)) q := pass_at I hI E c 0 r q

/-- Row `r` of the second pass, likewise. -/
theorem passB_at (I : Vec Ideal S512x1 .i32) (hI : Named I) (E : Vec Ideal S4096x512 .bf16) (c : Dev nD) (r : Fin 256) (q : Fin 512) :
    passB I E c (ix2 r q) = found E c.val (idAt I (128 * (c.val + 3) + r.val)) q := pass_at I hI E c 1 r q

/-- Column `q` of the columns `h`. -/
def colOf (h : Fin 4) (q : Fin 128) : Fin 512 := ⟨128 * h.val + q.val, by omega⟩

/-- An entry of a column piece is the array's at that column. -/
theorem cols_at (h : Fin 4) (x : FVec Ideal S128x512 .bf16) (r q : Fin 128) : cols h x (ix2 r q) = x (ix2 r (colOf h q)) := by
  refine congrArg x (funext fun a => Fin.ext ?_)
  match a with
  | ⟨0, _⟩ => exact Nat.zero_add _
  | ⟨1, _⟩ => rfl

/-- The upper and the lower half of a pass's rows. -/
theorem upper_at (x : FVec Ideal S256x512 .bf16) (r : Fin 128) (q : Fin 512) :
    extractStridedSlice S128x512 ![0, 0] x slices_S256x512_o0_0_S128x512 (ix2 r q) = x (ix2 ⟨r.val, by omega⟩ q) := by
  refine congrArg x (funext fun a => Fin.ext ?_)
  match a with
  | ⟨0, _⟩ => exact Nat.zero_add _
  | ⟨1, _⟩ => exact Nat.zero_add _
/-- An entry of the lower half is the one 128 rows down. -/
theorem lower_at (x : FVec Ideal S256x512 .bf16) (r : Fin 128) (q : Fin 512) :
    extractStridedSlice S128x512 ![128, 0] x slices_S256x512_o128_0_S128x512 (ix2 r q) = x (ix2 ⟨128 + r.val, by omega⟩ q) := by
  refine congrArg x (funext fun a => Fin.ext ?_)
  match a with
  | ⟨0, _⟩ => rfl
  | ⟨1, _⟩ => exact Nat.zero_add _

/-- The rows device `c` finds for the device `e + 1` places on. -/
theorem rowsFor_at (I : Vec Ideal S512x1 .i32) (hI : Named I) (E : Vec Ideal S4096x512 .bf16) (c : Dev nD) (e : Fin 3) (r : Fin 128) (q : Fin 512) :
    rowsFor I E c e (ix2 r q) = found E c.val (idAt I (128 * (c.val + e.val + 1) + r.val)) q := by
  match e with
  | 0 => exact (upper_at _ r q).trans (passA_at I hI E c _ q)
  | 1 =>
    refine ((lower_at _ r q).trans (passA_at I hI E c _ q)).trans (congrArg (fun n => found E c.val n q) (idAt_round I (congrArg (· % 512) ?_)))
    show 128 * (c.val + 1) + (128 + r.val) = 128 * (c.val + 1 + 1) + r.val
    omega
  | 2 => exact (upper_at _ r q).trans (passB_at I hI E c _ q)

/-- The rows it finds for itself. -/
theorem ownRows_at (I : Vec Ideal S512x1 .i32) (hI : Named I) (E : Vec Ideal S4096x512 .bf16) (c : Dev nD) (r : Fin 128) (q : Fin 512) :
    extractStridedSlice S128x512 ![128, 0] (passB I E c) slices_S256x512_o128_0_S128x512 (ix2 r q) = found E c.val (idAt I (128 * c.val + r.val)) q := by
  refine ((lower_at _ r q).trans (passB_at I hI E c _ q)).trans (congrArg (fun n => found E c.val n q) (idAt_round I ?_))
  show (128 * (c.val + 3) + (128 + r.val)) % 512 = _
  omega

/-- Of four values, all but one nothing, the sum is that one. -/
theorem sum_four (f : Dev nD → EReal) (d j : Dev nD) (h : ∀ c, c ≠ d → f c = 0) : f j + f (back j 0) + f (back j 2) + f (back j 1) = f d := by
  have hc : (d = j ∧ back j 0 ≠ d ∧ back j 2 ≠ d ∧ back j 1 ≠ d) ∨ (d = back j 0 ∧ j ≠ d ∧ back j 2 ≠ d ∧ back j 1 ≠ d)
      ∨ (d = back j 2 ∧ j ≠ d ∧ back j 0 ≠ d ∧ back j 1 ≠ d) ∨ (d = back j 1 ∧ j ≠ d ∧ back j 0 ≠ d ∧ back j 2 ≠ d) := by
    clear h; revert d j; decide
  rcases hc with ⟨e, h1, h2, h3⟩ | ⟨e, h1, h2, h3⟩ | ⟨e, h1, h2, h3⟩ | ⟨e, h1, h2, h3⟩
  · rw [h _ h1, h _ h2, h _ h3, add_zero, add_zero, add_zero, e]
  · rw [h _ h1, h _ h2, h _ h3, zero_add, add_zero, add_zero, e]
  · rw [h _ h1, h _ h2, h _ h3, zero_add, zero_add, add_zero, e]
  · rw [h _ h1, h _ h2, h _ h3, zero_add, zero_add, zero_add, e]

/-- Going `e + 1` places on from the device `e + 1` places back leads home, counted by numbers. -/
theorem back_round (j : Dev nD) (e : Fin 3) : ((back j e).val + e.val + 1) % 4 = j.val := by revert j e; decide

variable (X : Input Ideal) (I : Vec Ideal S512x1 .i32)

/-- The row of the whole table that the index at place `n` names: which device has it, and where. -/
def rowAt (n : ℕ) (hI : Named I) (q : Fin 512) : EReal :=
  X.tab ⟨idAt I n / 4096, by have := hI n; show _ < 4; omega⟩ (ix2 ⟨idAt I n % 4096, Nat.mod_lt _ (by decide)⟩ q)

/-- Device `j`'s sums are the rows that its own indices name. -/
theorem total_at (hX : ∀ c, X.ids c = I) (hI : Named I) (j : Dev nD) (h : Fin 4) (r q : Fin 128) :
    total X j h (ix2 r q) = rowAt X I (128 * j.val + r.val) hI (colOf h q) := by
  have hp (e : Fin 3) : part X (back j e) (h, e) (ix2 r q) = found (X.tab (back j e)) (back j e).val (idAt I (128 * j.val + r.val)) (colOf h q) := by
    refine (cols_at h _ r q).trans ?_
    rw [hX]
    refine (rowsFor_at I hI _ _ e r _).trans (congrArg (fun n => found _ _ n _) (idAt_round I ?_))
    have := back_round j e
    omega
  have ho : cols h (extractStridedSlice S128x512 ![128, 0] (passB (X.ids j) (X.tab j) j) slices_S256x512_o128_0_S128x512) (ix2 r q)
      = found (X.tab j) j.val (idAt I (128 * j.val + r.val)) (colOf h q) := by
    refine (cols_at h _ r q).trans ?_
    rw [hX]
    exact ownRows_at I hI _ j r _
  unfold total
  rw [addf_apply, addf_apply, addf_apply, hp, hp, hp, ho]
  have hn := hI (128 * j.val + r.val)
  refine (sum_four (fun c => found (X.tab c) c.val (idAt I (128 * j.val + r.val)) (colOf h q))
    ⟨idAt I (128 * j.val + r.val) / 4096, by show _ < 4; omega⟩ j fun c hc => if_neg fun e => hc (Fin.ext e.symm)).trans ?_
  exact if_pos rfl

/-- What every device ends with: row `x` is the row of the whole table that index `x` names. -/
theorem result_at (hX : ∀ c, X.ids c = I) (hI : Named I) (x y : Fin 512) : result X (ix2 x y) = rowAt X I x.val hI y := by
  have hx := x.isLt
  have hy := y.isLt
  refine (congrArg (total X ⟨x.val / 128, by show _ < 4; omega⟩ ⟨y.val / 128, by omega⟩) (show _ = (ix2 ⟨x.val % 128, Nat.mod_lt _ (by decide)⟩ ⟨y.val % 128, Nat.mod_lt _ (by decide)⟩ : S128x128.Idx) from
    funext fun a => by match a with
      | ⟨0, _⟩ => rfl
      | ⟨1, _⟩ => rfl)).trans ?_
  rw [total_at X I hX hI]
  have e1 : 128 * (x.val / 128) + x.val % 128 = x.val := Nat.div_add_mod _ _
  have e2 : colOf ⟨y.val / 128, by omega⟩ ⟨y.val % 128, Nat.mod_lt _ (by decide)⟩ = y := Fin.ext (Nat.div_add_mod _ _)
  simp only [e1, e2]

end Cert.KernelIdeal.Run
-- ==== Proof.Reference.lean ====
/- What the reference computes, and what the precondition says of the indices. -/
module

public import proofs.«01_k».proof.Proof.Gen.ReferenceIdeal.Run
public import proofs.«01_k».proof.Proof.Gen.Pre_in_vocabulary_KernelIdeal
public import Idealize.ShloMosaic.PureOps.Ideal
public import Idealize.ShloMosaic.Lib.ValueIdx
public import Idealize.ShloMosaic.Lib.ReduceAll
public import Idealize.ShloMosaic.Lib.Routing.Ops

@[expose] public section

noncomputable section

namespace Cert.ReferenceIdeal.Rows

open Idealize.ShloMosaic Idealize.ShloMosaic.ValueIdx Idealize.ShloMosaic.StableHlo.Predicate
open Cert.ReferenceIdeal Cert.ReferenceIdeal.Gen

/-- A word that is at least zero and below 16384, read signed, is below 16384. -/
theorem word_small (a : BitVec 32) (h : IntOp.andi (IntOp.cmpi .sge a 0#32) (IntOp.cmpi .slt a 16384#32) = 1#1) : a.toNat < 16384 := by
  have h2 : BitVec.ofBool ((0#32).sle a) &&& BitVec.ofBool (a.slt 16384#32) = 1#1 := h
  have hb : (0#32).sle a = true ∧ a.slt 16384#32 = true := by
    revert h2
    cases (0#32).sle a <;> cases a.slt 16384#32 <;> decide
  have h0 := hb.1
  have h1 := hb.2
  rw [BitVec.sle, decide_eq_true_eq] at h0
  rw [BitVec.slt, decide_eq_true_eq] at h1
  have e0 : (0#32).toInt = 0 := by decide
  have e1 : (16384#32).toInt = 16384 := by decide
  rw [e0] at h0
  rw [e1] at h1
  rw [BitVec.toInt_eq_toNat_cond] at h0 h1
  split at h0 <;> omega

/-- The precondition: every index is below the number of the whole table's rows. -/
theorem in_range (ids : IVec S512 32) (E : FVec Ideal Cert.Pre_in_vocabulary_KernelIdeal.S4096x512 .bf16)
    (h : Cert.Pre_in_vocabulary_KernelIdeal.fn (F := Ideal) ids E = fun _ => 1#1) (x : S512.Idx) : (ids x).toNat < 16384 := by
  haveI : Subsingleton Cert.Pre_in_vocabulary_KernelIdeal.S_.Idx := ⟨fun a b => funext fun i => i.elim0⟩
  exact word_small _ (Host.reduce_andi_all _ _ _ _ ix0 (congrFun h ix0) x)

/-- The indices as the reference uses them, one below each other, a negative one counted from the end. -/
def starts (ids : IVec S512 32) : IVec S512x1 32 :=
  broadcastInDim S512x1 ![0] bcast_S512_S512x1_0
    (select (cmpi .slt ids (broadcastInDim S512 ![] bcast_S_S512 (constantI S_ 32 0#32)))
      (addi ids (broadcastInDim S512 ![] bcast_S_S512 (constantI S_ 32 16384#32))) ids)

/-- A list set upright. -/
theorem column_at (v : IVec S512 32) (x : Fin 512) : broadcastInDim S512x1 ![0] bcast_S512_S512x1_0 v (ix2 x 0) = v (ix1 x) := by
  refine congrArg v (funext fun a => ?_)
  match a with
  | ⟨0, _⟩ => rfl

/-- None is negative, so they are the indices themselves. -/
theorem starts_at (ids : IVec S512 32) (x : Fin 512) (h : (ids (ix1 x)).toNat < 16384) : starts ids (ix2 x 0) = ids (ix1 x) := by
  have e : starts ids (ix2 x 0) = Scalar.select (IntOp.cmpi .slt (ids (ix1 x)) 0#32) (ids (ix1 x) + 16384#32) (ids (ix1 x)) := by
    unfold starts
    rw [column_at]
    rfl
  have h0 : IntOp.cmpi .slt (ids (ix1 x)) 0#32 = 0#1 := by
    refine eq_zero_of_ne_one fun hh => ?_
    exact absurd ((slt_iff_toNat (by omega) (by decide)).mp hh) (Nat.not_lt_zero _)
  rw [e, h0, select_zero]

/-- The reference's result: row `x` is the row of the table that index `x` names. -/
theorem value_at (ids : IVec S512 32) (E : FVec Ideal S16384x512 .bf16) (x y : Fin 512) (h : (ids (ix1 x)).toNat < 16384) :
    (truncf .bf16 (extf .f32 (Host.gather gather_S16384x512_S512x1_S512x512_1_0_n_n_0_1_1512 E (starts ids)) bitsLt_bf16_f32) bitsLt_bf16_f32
      : FVec Ideal S512x512 .bf16) (ix2 x y) = E (ix2 ⟨(ids (ix1 x)).toNat, h⟩ y) := by
  rw [truncf_apply, extf_apply]
  refine Routing.gather_row gather_S16384x512_S512x1_S512x512_1_0_n_n_0_1_1512 rfl rfl rfl rfl rfl E (starts ids) x y ⟨_, h⟩ ?_ (by decide)
  rw [starts_at ids x h]
  simp

end Cert.ReferenceIdeal.Rows

end
-- ==== Proof.Equation.lean ====
/- The equation: what the kernel leaves on every device is what the reference computes. -/
module

public import proofs.«01_k».proof.Defs
public import proofs.«01_k».proof.Proof.Launch
public import proofs.«01_k».proof.Proof.Rows
public import proofs.«01_k».proof.Proof.Reference

@[expose] public section

set_option maxRecDepth 16384

noncomputable section

namespace Cert.Proof

open Idealize.ShloMosaic Idealize.ShloMosaic.TcCoe Idealize.ShloMosaic.ValueIdx Idealize.SL.Sem
open Cert.KernelIdeal Cert.KernelIdeal.Gen Cert.KernelIdeal.Run

section
variable (m : (ℓ : Loc Cert.KernelIdeal.nD Cert.KernelIdeal.τ Cert.KernelIdeal.sig) → Buf (Elt Ideal) ℓ)

/-- The indices a device is given, as the kernel's call gets them: the argument set upright. -/
theorem ids_given (c : Dev nD) (x : Fin 512) :
    (input m).ids c (ix2 x 0) = (m ((c.tc : Thread nD τ).loc main_arg0) : Vec Ideal S512 .i32) (ix1 x) := by
  have e : (V m c main_v1 : Vec Ideal S512x1 .i32) = shapeCast S512x1 (m ((c.tc : Thread nD τ).loc main_arg0) : Vec Ideal S512 .i32) shapeCasts_S512_S512x1 := by
    show StableHlo.after hostOps0 (fun b => m (c, b)) (Proc.devRef .tc main_v1) = _
    unfold hostOps0
    rw [StableHlo.after_cons, StableHlo.after_nil, StableHlo.reshape_result']
    rfl
  have hb : (input m).ids c (ix2 x 0) = (V m c main_v1 : Vec Ideal S512x1 .i32) (ix2 x 0) := by
    refine congrArg (V m c main_v1 : Vec Ideal S512x1 .i32) (funext fun a => Fin.ext ?_)
    match a with
    | ⟨0, _⟩ => show 0 + 1 * x.val = x.val; omega
    | ⟨1, _⟩ => rfl
  rw [hb, e]
  refine shapeCast_apply _ _ _ (ix1 x) ?_
  rw [Shape.rowMajor_val_one, Shape.rowMajor_val_two]
  show x.val = x.val * 1 + 0
  omega

/-- The part of the table a device is given. -/
theorem tab_given (c : Dev nD) : (input m).tab c = (m ((c.tc : Thread nD τ).loc main_arg1) : Vec Ideal S4096x512 .bf16) := by
  rw [← V_main_arg1 m c]
  funext x
  refine congrArg (V m c main_arg1 : Vec Ideal S4096x512 .bf16) (funext fun a => Fin.ext ?_)
  match a with
  | ⟨0, _⟩ => show 0 + 1 * (x 0).val = (x 0).val; omega
  | ⟨1, _⟩ => show 0 + 1 * (x 1).val = (x 1).val; omega

variable (ids : Vec Ideal S512 .i32) (E : Vec Ideal Cert.ReferenceIdeal.S16384x512 .bf16)

/-- Where every device has the same indices, all in range, and its quarter of the table: the rows of the whole
    table that the indices name. -/
theorem result_eq (hids : ∀ c : Dev nD, m ((c.tc : Thread nD τ).loc main_arg0) = ids)
    (htab : ∀ c : Dev nD, m ((c.tc : Thread nD τ).loc main_arg1) = Layout.block ⟨2, ![4096, 512]⟩ ⟨2, ![16384, 512]⟩ 0 4 c E)
    (hr : ∀ x, (ids x : BitVec 32).toNat < 16384) (x y : Fin 512) :
    result (input m) (ix2 x y) = E (ix2 ⟨(ids (ix1 x) : BitVec 32).toNat, hr _⟩ y) := by
  have hat (c : Dev nD) (n : Fin 512) : (input m).ids c (ix2 n 0) = ids (ix1 n) := by rw [ids_given, hids]
  have hX (c : Dev nD) : (input m).ids c = (input m).ids 0 := by
    funext z
    obtain ⟨n, k, rfl⟩ : ∃ (n : Fin 512) (k : Fin 1), z = ix2 n k := ⟨z 0, z 1, eq_ix2 z⟩
    obtain rfl : k = 0 := Subsingleton.elim _ _
    rw [hat, hat]
  have hI : Named ((input m).ids 0) := fun n => by unfold idAt; rw [hat]; exact hr _
  rw [result_at (input m) _ hX hI x y]
  unfold rowAt
  rw [tab_given, htab, Layout.block_apply]
  have hn : idAt ((input m).ids 0) x.val = (ids (ix1 x) : BitVec 32).toNat := by
    unfold idAt
    rw [hat]
    exact congrArg (fun k : Fin 512 => (ids (ix1 k) : BitVec 32).toNat) (Fin.ext (Nat.mod_eq_of_lt x.isLt))
  refine congrArg E (funext fun a => Fin.ext ?_)
  rw [Layout.Tiles.idx_val]
  match a with
  | ⟨0, _⟩ =>
    show idAt ((input m).ids 0) x.val / 4096 * 4096 + idAt ((input m).ids 0) x.val % 4096 = (ids (ix1 x) : BitVec 32).toNat
    rw [hn]; omega
  | ⟨1, _⟩ => rfl

end

/-- THE VALUE: on all four devices the kernel leaves what the reference computes, exactly, over the extended reals,
    for any table and any indices that name rows of it. -/
theorem value : Cert.algebraic_KernelIdeal_ReferenceIdeal_pre_in_vocabulary_KernelIdeal := by
  intro m ρ m' ρ' hpre hagree
  have hr (x : S512.Idx) : ((m' (((0 : Dev Cert.ReferenceIdeal.nD).tc : Thread Cert.ReferenceIdeal.nD Cert.ReferenceIdeal.τ).loc
      Cert.ReferenceIdeal.main_arg0) : Vec Ideal S512 .i32) x : BitVec 32).toNat < 16384 := by
    rw [← (hagree 0).1]
    exact Cert.ReferenceIdeal.Rows.in_range _ _ (hpre 0) x
  refine ⟨result (input m), ?_, ?_⟩
  · exact (θ_run Cert.KernelIdeal.defs _ _).mono (fun _ h c => ⟨(h.1 c).2.2, (h.1 c).1, (h.1 c).2.1⟩) (run_main (F := Ideal) m ρ)
  · refine (θ_run Cert.ReferenceIdeal.defs _ _).mono (fun _ h => ⟨(h 0).1.trans ?_, (h 0).2⟩) (Cert.ReferenceIdeal.Value.run (F := Ideal) m' ρ')
    funext z
    obtain ⟨x, y, rfl⟩ : ∃ x y : Fin 512, z = ix2 x y := ⟨z 0, z 1, eq_ix2 z⟩
    rw [result_eq m _ _ (fun c => (hagree c).1) (fun c => (hagree c).2) hr x y]
    exact Cert.ReferenceIdeal.Rows.value_at _ _ x y (hr _)

end Cert.Proof

end
-- ==== Proof.lean ====
/- The certificate: the programs' frames, and that kernel and reference compute the same. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_vocabulary_KernelIdeal
public import proofs.«01_k».proof.Proof.Gen.Pre_in_vocabulary_ReferenceIdeal
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All claims: the frames (with the precondition too, which they do not need), that the ideal program is the kernel over the
    extended reals, and that it computes what the reference computes. -/
theorem claim : Cert.Claim := ⟨Cert.Kernel.Gen.facts, Cert.KernelIdeal.Gen.facts, Cert.ReferenceIdeal.Gen.facts,
  Cert.Pre_in_vocabulary_KernelIdeal.Gen.facts, Cert.Pre_in_vocabulary_ReferenceIdeal.Gen.facts,
  frame_kernel, frame_ideal, frame_ideal_pre, frame_reference, frame_reference_pre, trivial, value⟩

end Cert.Proof

end
